-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1024x8192 : Shape := ⟨3, ![24, 1024, 8192]⟩
abbrev S4096x5120 : Shape := ⟨2, ![4096, 5120]⟩
abbrev S64x5120 : Shape := ⟨2, ![64, 5120]⟩
abbrev S24x1024x5120 : Shape := ⟨3, ![24, 1024, 5120]⟩
abbrev S5120 : Shape := ⟨1, ![5120]⟩
abbrev S24576x8192 : Shape := ⟨2, ![24576, 8192]⟩
abbrev S24576x5120 : Shape := ⟨2, ![24576, 5120]⟩
abbrev S8192x5120 : Shape := ⟨2, ![8192, 5120]⟩
abbrev S512x1280 : Shape := ⟨2, ![512, 1280]⟩
abbrev S8x1280 : Shape := ⟨2, ![8, 1280]⟩
abbrev S1024x1280 : Shape := ⟨2, ![1024, 1280]⟩
abbrev S512x1x1280 : Shape := ⟨3, ![512, 1, 1280]⟩
abbrev S512x2x1280 : Shape := ⟨3, ![512, 2, 1280]⟩
abbrev S8x128x1280 : Shape := ⟨3, ![8, 128, 1280]⟩
abbrev S8x1x1280 : Shape := ⟨3, ![8, 1, 1280]⟩
abbrev S1x5120 : Shape := ⟨2, ![1, 5120]⟩
abbrev S24576x1 : Shape := ⟨2, ![24576, 1]⟩
abbrev S512x8192 : Shape := ⟨2, ![512, 8192]⟩
abbrev S8192x512 : Shape := ⟨2, ![8192, 512]⟩
abbrev S512x512 : Shape := ⟨2, ![512, 512]⟩
abbrev S512x5120 : Shape := ⟨2, ![512, 5120]⟩
abbrev S512x1 : Shape := ⟨2, ![512, 1]⟩
abbrev S32x5120 : Shape := ⟨2, ![32, 5120]⟩
abbrev S32 : Shape := ⟨1, ![32]⟩
abbrev S32x1 : Shape := ⟨2, ![32, 1]⟩
abbrev S24x1024x1 : Shape := ⟨3, ![24, 1024, 1]⟩

abbrev nBuf : Space → Nat
  | .hbm => 15
  | .vmem => 20
  | .smem => 0
  | _ => 0

abbrev bufTy : (tb : Table) → Fin (tcTables nBuf tb) → BufTy
  | .hbm, ⟨0, _⟩ => ⟨S24x1024x8192, .bf16⟩
  | .hbm, ⟨1, _⟩ => ⟨S4096x5120, .i8⟩
  | .hbm, ⟨2, _⟩ => ⟨S64x5120, .f32⟩
  | .hbm, ⟨3, _⟩ => ⟨S24x1024x5120, .bf16⟩
  | .hbm, ⟨4, _⟩ => ⟨S5120, .f32⟩
  | .hbm, ⟨5, _⟩ => ⟨S24576x8192, .bf16⟩
  | .hbm, ⟨6, _⟩ => ⟨S24576x5120, .bf16⟩
  | .hbm, ⟨7, _⟩ => ⟨S8192x5120, .bf16⟩
  | .hbm, ⟨8, _⟩ => ⟨S1x5120, .f32⟩
  | .hbm, ⟨9, _⟩ => ⟨S24576x5120, .bf16⟩
  | .hbm, ⟨10, _⟩ => ⟨S24576x5120, .i8⟩
  | .hbm, ⟨11, _⟩ => ⟨S24576x1, .f32⟩
  | .hbm, ⟨12, _⟩ => ⟨S24x1024x5120, .bf16⟩
  | .hbm, ⟨13, _⟩ => ⟨S24x1024x5120, .i8⟩
  | .hbm, ⟨14, _⟩ => ⟨S24x1024x1, .f32⟩
  | .local _ .vmem, ⟨0, _⟩ => ⟨S512x1280, .i8⟩
  | .local _ .vmem, ⟨1, _⟩ => ⟨S512x1280, .i8⟩
  | .local _ .vmem, ⟨2, _⟩ => ⟨S8x1280, .f32⟩
  | .local _ .vmem, ⟨3, _⟩ => ⟨S8x1280, .f32⟩
  | .local _ .vmem, ⟨4, _⟩ => ⟨S1024x1280, .bf16⟩
  | .local _ .vmem, ⟨5, _⟩ => ⟨S1024x1280, .bf16⟩
  | .local _ .vmem, ⟨6, _⟩ => ⟨S512x8192, .bf16⟩
  | .local _ .vmem, ⟨7, _⟩ => ⟨S512x8192, .bf16⟩
  | .local _ .vmem, ⟨8, _⟩ => ⟨S8192x512, .bf16⟩
  | .local _ .vmem, ⟨9, _⟩ => ⟨S8192x512, .bf16⟩
  | .local _ .vmem, ⟨10, _⟩ => ⟨S512x512, .bf16⟩
  | .local _ .vmem, ⟨11, _⟩ => ⟨S512x512, .bf16⟩
  | .local _ .vmem, ⟨12, _⟩ => ⟨S1x5120, .f32⟩
  | .local _ .vmem, ⟨13, _⟩ => ⟨S512x512, .bf16⟩
  | .local _ .vmem, ⟨14, _⟩ => ⟨S512x512, .bf16⟩
  | .local _ .vmem, ⟨15, _⟩ => ⟨S512x5120, .i8⟩
  | .local _ .vmem, ⟨16, _⟩ => ⟨S512x5120, .i8⟩
  | .local _ .vmem, ⟨17, _⟩ => ⟨S512x1, .f32⟩
  | .local _ .vmem, ⟨18, _⟩ => ⟨S512x1, .f32⟩
  | .local _ .vmem, ⟨19, _⟩ => ⟨S512x5120, .bf16⟩
  | _, _ => ⟨S24x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1280 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![48, 10], ![false, false]⟩

def k1_mult1 (i : grid1.Coords) : BitVec 32 :=
  let arg1 : BitVec 32 := BitVec.ofNat 32 (i 1).val
  let c512_i32 : BitVec 32 := 512#32
  let v11 : BitVec 32 := Scalar.muli arg1 c512_i32
  v11
def k1_off1 (i : grid1.Coords) : Fin 2 → Nat :=
  let c0_7 : Index := 0#32
  let arg1 : BitVec 32 := BitVec.ofNat 32 (i 1).val
  let c512_i32 : BitVec 32 := 512#32
  let v11 : BitVec 32 := Scalar.muli arg1 c512_i32
  let v12 : BitVec 32 := v11
  let v13 : Index := Scalar.indexCast v12
  ![0, v13.toNat]
def k1_cond1 (i : grid1.Coords) : BitVec 1 :=
  let arg1 : BitVec 32 := BitVec.ofNat 32 (i 1).val
  let c9_i32 : BitVec 32 := 9#32
  let v17 : BitVec 1 := Scalar.cmpi .eq arg1 c9_i32
  let v18 : BitVec 32 := Scalar.extui v17
  let c0_i32 : BitVec 32 := 0#32
  let v19 : BitVec 1 := Scalar.cmpi .ne v18 c0_i32
  v19

@[reducible] def k1_t1_loop : Scf.Loop 32 :=
  let c0_i32_8 : BitVec 32 := 0#32
  let c16_i32 : BitVec 32 := 16#32
  let v20 : BitVec 32 := Scalar.addi c0_i32_8 c16_i32
  let c1_i32 : BitVec 32 := 1#32
  ⟨c0_i32_8, v20, c1_i32⟩
def k1_mult2 (k1_t1 : Fin k1_t1_loop.trips) : BitVec 32 :=
  let c0_i32_8 : BitVec 32 := 0#32
  let c1_i32 : BitVec 32 := 1#32
  let arg10 : BitVec 32 := Scf.iv c0_i32_8 c1_i32 k1_t1
  let c32_i32 : BitVec 32 := 32#32
  let v21 : BitVec 32 := Scalar.muli arg10 c32_i32
  v21
def k1_off2 (k1_t1 : Fin k1_t1_loop.trips) : Fin 2 → Nat :=
  let c0_i32_8 : BitVec 32 := 0#32
  let c1_i32 : BitVec 32 := 1#32
  let arg10 : BitVec 32 := Scf.iv c0_i32_8 c1_i32 k1_t1
  let c32_i32 : BitVec 32 := 32#32
  let v21 : BitVec 32 := Scalar.muli arg10 c32_i32
  let v22 : BitVec 32 := v21
  let v23 : Index := Scalar.indexCast v22
  let c0_10 : Index := 0#32
  ![v23.toNat, 0]
def k1_off3 (k1_t1 : Fin k1_t1_loop.trips) : Fin 2 → Nat :=
  let c0_i32_8 : BitVec 32 := 0#32
  let c1_i32 : BitVec 32 := 1#32
  let arg10 : BitVec 32 := Scf.iv c0_i32_8 c1_i32 k1_t1
  let c32_i32 : BitVec 32 := 32#32
  let v21 : BitVec 32 := Scalar.muli arg10 c32_i32
  let v22 : BitVec 32 := v21
  let v59 : Index := Scalar.indexCast v22
  let c0_23 : Index := 0#32
  ![v59.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8192x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x5120 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x5120 .i8 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]
-- ==== ReferenceIdeal.lean ====
abbrev S24x1024x8192 : Shape := ⟨3, ![24, 1024, 8192]⟩
abbrev S4096x5120 : Shape := ⟨2, ![4096, 5120]⟩
abbrev S64x5120 : Shape := ⟨2, ![64, 5120]⟩
abbrev S24x1024x5120 : Shape := ⟨3, ![24, 1024, 5120]⟩
abbrev S5120 : Shape := ⟨1, ![5120]⟩
abbrev S_ : Shape := ⟨0, ![]⟩
abbrev S4096x1x5120 : Shape := ⟨3, ![4096, 1, 5120]⟩
abbrev S4096x2x5120 : Shape := ⟨3, ![4096, 2, 5120]⟩
abbrev S8192x5120 : Shape := ⟨2, ![8192, 5120]⟩
abbrev S64x128x5120 : Shape := ⟨3, ![64, 128, 5120]⟩
abbrev S64x1x5120 : Shape := ⟨3, ![64, 1, 5120]⟩
abbrev S24x1024 : Shape := ⟨2, ![24, 1024]⟩
abbrev S24x1024x1 : Shape := ⟨3, ![24, 1024, 1]⟩
abbrev S1x1x5120 : Shape := ⟨3, ![1, 1, 5120]⟩

abbrev nBuf : Space → Nat
  | .hbm => 85
  | .vmem => 0
  | .smem => 0
  | _ => 0

abbrev bufTy : (tb : Table) → Fin (tcTables nBuf tb) → BufTy
  | .hbm, ⟨0, _⟩ => ⟨S24x1024x8192, .bf16⟩
  | .hbm, ⟨1, _⟩ => ⟨S4096x5120, .i8⟩
  | .hbm, ⟨2, _⟩ => ⟨S64x5120, .f32⟩
  | .hbm, ⟨3, _⟩ => ⟨S24x1024x5120, .bf16⟩
  | .hbm, ⟨4, _⟩ => ⟨S5120, .f32⟩
  | .hbm, ⟨5, _⟩ => ⟨S4096x5120, .i32⟩
  | .hbm, ⟨6, _⟩ => ⟨S_, .i32⟩
  | .hbm, ⟨7, _⟩ => ⟨S4096x5120, .i32⟩
  | .hbm, ⟨8, _⟩ => ⟨S4096x5120, .i32⟩
  | .hbm, ⟨9, _⟩ => ⟨S_, .i32⟩
  | .hbm, ⟨10, _⟩ => ⟨S4096x5120, .i32⟩
  | .hbm, ⟨11, _⟩ => ⟨S4096x5120, .i32⟩
  | .hbm, ⟨12, _⟩ => ⟨S_, .i32⟩
  | .hbm, ⟨13, _⟩ => ⟨S4096x5120, .i32⟩
  | .hbm, ⟨14, _⟩ => ⟨S4096x5120, .i1⟩
  | .hbm, ⟨15, _⟩ => ⟨S_, .i32⟩
  | .hbm, ⟨16, _⟩ => ⟨S4096x5120, .i32⟩
  | .hbm, ⟨17, _⟩ => ⟨S4096x5120, .i32⟩
  | .hbm, ⟨18, _⟩ => ⟨S4096x5120, .i32⟩
  | .hbm, ⟨19, _⟩ => ⟨S_, .i32⟩
  | .hbm, ⟨20, _⟩ => ⟨S4096x5120, .i32⟩
  | .hbm, ⟨21, _⟩ => ⟨S4096x5120, .i1⟩
  | .hbm, ⟨22, _⟩ => ⟨S_, .i32⟩
  | .hbm, ⟨23, _⟩ => ⟨S4096x5120, .i32⟩
  | .hbm, ⟨24, _⟩ => ⟨S4096x5120, .i32⟩
  | .hbm, ⟨25, _⟩ => ⟨S4096x5120, .i32⟩
  | .hbm, ⟨26, _⟩ => ⟨S4096x1x5120, .i32⟩
  | .hbm, ⟨27, _⟩ => ⟨S4096x1x5120, .i32⟩
  | .hbm, ⟨28, _⟩ => ⟨S4096x2x5120, .i32⟩
  | .hbm, ⟨29, _⟩ => ⟨S8192x5120, .i32⟩
  | .hbm, ⟨30, _⟩ => ⟨S8192x5120, .bf16⟩
  | .hbm, ⟨31, _⟩ => ⟨S64x128x5120, .bf16⟩
  | .hbm, ⟨32, _⟩ => ⟨S64x5120, .bf16⟩
  | .hbm, ⟨33, _⟩ => ⟨S64x1x5120, .bf16⟩
  | .hbm, ⟨34, _⟩ => ⟨S64x128x5120, .bf16⟩
  | .hbm, ⟨35, _⟩ => ⟨S64x128x5120, .bf16⟩
  | .hbm, ⟨36, _⟩ => ⟨S8192x5120, .bf16⟩
  | .hbm, ⟨37, _⟩ => ⟨S24x1024x5120, .f32⟩
  | .hbm, ⟨38, _⟩ => ⟨S24x1024x5120, .f32⟩
  | .hbm, ⟨39, _⟩ => ⟨S24x1024x5120, .f32⟩
  | .hbm, ⟨40, _⟩ => ⟨S24x1024x5120, .bf16⟩
  | .hbm, ⟨41, _⟩ => ⟨S24x1024x5120, .f32⟩
  | .hbm, ⟨42, _⟩ => ⟨S24x1024x5120, .f32⟩
  | .hbm, ⟨43, _⟩ => ⟨S_, .f32⟩
  | .hbm, ⟨44, _⟩ => ⟨S24x1024, .f32⟩
  | .hbm, ⟨45, _⟩ => ⟨S24x1024x1, .f32⟩
  | .hbm, ⟨46, _⟩ => ⟨S_, .f32⟩
  | .hbm, ⟨47, _⟩ => ⟨S24x1024x1, .f32⟩
  | .hbm, ⟨48, _⟩ => ⟨S24x1024x1, .f32⟩
  | .hbm, ⟨49, _⟩ => ⟨S_, .f32⟩
  | .hbm, ⟨50, _⟩ => ⟨S24x1024x1, .f32⟩
  | .hbm, ⟨51, _⟩ => ⟨S24x1024x1, .f32⟩
  | .hbm, ⟨52, _⟩ => ⟨S24x1024x1, .f32⟩
  | .hbm, ⟨53, _⟩ => ⟨S24x1024x5120, .f32⟩
  | .hbm, ⟨54, _⟩ => ⟨S24x1024x5120, .f32⟩
  | .hbm, ⟨55, _⟩ => ⟨S1x1x5120, .f32⟩
  | .hbm, ⟨56, _⟩ => ⟨S24x1024x5120, .f32⟩
  | .hbm, ⟨57, _⟩ => ⟨S24x1024x5120, .f32⟩
  | .hbm, ⟨58, _⟩ => ⟨S24x1024x5120, .f32⟩
  | .hbm, ⟨59, _⟩ => ⟨S_, .f32⟩
  | .hbm, ⟨60, _⟩ => ⟨S24x1024, .f32⟩
  | .hbm, ⟨61, _⟩ => ⟨S24x1024x1, .f32⟩
  | .hbm, ⟨62, _⟩ => ⟨S_, .f32⟩
  | .hbm, ⟨63, _⟩ => ⟨S24x1024x1, .f32⟩
  | .hbm, ⟨64, _⟩ => ⟨S24x1024x1, .i1⟩
  | .hbm, ⟨65, _⟩ => ⟨S_, .f32⟩
  | .hbm, ⟨66, _⟩ => ⟨S24x1024x1, .f32⟩
  | .hbm, ⟨67, _⟩ => ⟨S24x1024x1, .f32⟩
  | .hbm, ⟨68, _⟩ => ⟨S_, .f32⟩
  | .hbm, ⟨69, _⟩ => ⟨S_, .f32⟩
  | .hbm, ⟨70, _⟩ => ⟨S24x1024x1, .f32⟩
  | .hbm, ⟨71, _⟩ => ⟨S24x1024x1, .f32⟩
  | .hbm, ⟨72, _⟩ => ⟨S24x1024x5120, .f32⟩
  | .hbm, ⟨73, _⟩ => ⟨S24x1024x5120, .f32⟩
  | .hbm, ⟨74, _⟩ => ⟨S24x1024x5120, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S24x1024x5120, .f32⟩
  | .hbm, ⟨79, _⟩ => ⟨S24x1024x5120, .f32⟩
  | .hbm, ⟨80, _⟩ => ⟨S_, .f32⟩
  | .hbm, ⟨81, _⟩ => ⟨S24x1024x5120, .f32⟩
  | .hbm, ⟨82, _⟩ => ⟨S24x1024x5120, .f32⟩
  | .hbm, ⟨83, _⟩ => ⟨S24x1024x5120, .i32⟩
  | .hbm, ⟨84, _⟩ => ⟨S24x1024x5120, .i8⟩
  | _, _ => ⟨S24x1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_call2_v0 : Ref sig .tc := ⟨.hbm, 69, rfl⟩
abbrev main_call2_v1 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_cst_12 : Ref sig .tc := ⟨.hbm, 76, rfl⟩
abbrev main_call4_v0 : Ref sig .tc := ⟨.hbm, 77, rfl⟩
abbrev main_call4_v1 : Ref sig .tc := ⟨.hbm, 78, rfl⟩
abbrev main_call4_v2 : Ref sig .tc := ⟨.hbm, 79, rfl⟩
abbrev main_call4_v3 : Ref sig .tc := ⟨.hbm, 80, rfl⟩
abbrev main_call4_v4 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩

abbrev nD : Nat := 1
abbrev τ : Topo := Topo.v7x

variable {F : FTy → Type} [FloatOps F]
-- ==== Proof.DequantRegion.lean ====
/-
  The first pallas_call (the dequantisation of the packed weights) run at any float instance: the block each window
  holds at a grid point, what the body leaves in its output block, the pipeline's proof data and its body obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S512x1280 := Rect.unit (s := S512x1280) ![0, 0] S512x1280.size inb_S512x1280_S512x1280_0_0
abbrev r0_1 : Rect S8x1280 := Rect.unit (s := S8x1280) ![0, 0] S8x1280.size inb_S8x1280_S8x1280_0_0
abbrev r0_2 : Rect S1024x1280 := Rect.unit (s := S1024x1280) ![0, 0] S1024x1280.size inb_S1024x1280_S1024x1280_0_0

/-! ## What the body leaves in each output window's buffer -/

/-- Window 2's staging buffer after the body, from the input windows' blocks: its 1 store as pieces, LAST
    FIRST (Lib/Pipeline/FrameBody.lean `View.canon`; the payloads are the skeleton's). -/
def out0_2 (x0 : Vec F S512x1280 .i8) (x1 : Vec F S8x1280 .f32) : Vec F S1024x1280 .bf16 :=
  View.canon [⟨r0_2, k0_pay1 (View.ld x0 r0_0) (View.ld x1 r0_1)⟩]

/-- Its stores tile the buffer (checked by evaluation), so they cover it. -/
theorem cover0_2 (p0 : Vec F S1024x1280 .bf16) (y : S1024x1280.Idx) :
    ∃ pc ∈ ([⟨r0_2, p0⟩] : List (View.Piece (Elt F) S1024x1280 .bf16)), y ∈ pc.1.set :=
  View.cover_of_tiled [⟨r0_2, p0⟩] S1024x1280.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg2 : Memref sig .tc .vmem S512x1280 .i8) (harg2 : arg2.IsWhole) (arg3 : Memref sig .tc .vmem S8x1280 .f32) (harg3 : arg3.IsWhole) (arg4 : Memref sig .tc .vmem S1024x1280 .bf16) (harg4 : arg4.IsWhole)
    (x0 : Vec F S512x1280 .i8) (x1 : Vec F S8x1280 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0_dequant i arg2 harg2 arg3 harg3 arg4 harg4) K := by
  simp only [cc0_dequant_eq_skeleton]; unfold cc0_dequant_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.ProjBody.lean ====
/-
What one grid point of the second kernel (projection, residual add, normalisation, quantisation) does to the buffers
it is handed, with the contents of the row scratch followed through: each point puts its 512 columns of `h` into the
scratch; the last point of a row block normalises and quantises the whole rows out of the scratch, 32 rows at a time.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.Value
public import Idealize.ShloMosaic.Lib.ValueIdx
public import Idealize.ShloMosaic.Lib.Ring
public import Idealize.ShloMosaic.Lib.WordCmp
public import Idealize.ShloMosaic.Lib.Tactic

@[expose] public section

set_option maxRecDepth 65536

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the point computes, as functions of the blocks -/

/-- The 32 rows of a row block that trip `b` of the loop works on. -/
def rows32 (s : Vec F S512x5120 .bf16) (b : Fin 16) : Vec F S32x5120 .bf16 :=
  fun x => s (ix2 ⟨32 * b.val + (x 0).val, by have := b.isLt; have : (x 0).val < 32 := (x 0).isLt; omega⟩ ⟨(x 1).val, (x 1).isLt⟩)

/-- The scratch with the 512 columns from `512·j` on replaced by the block `p`. -/
def putCols (j : ℕ) (p : Vec F S512x512 .bf16) (s : Vec F S512x5120 .bf16) : Vec F S512x5120 .bf16 :=
  fun y => if h : 512 * j ≤ (y 1).val ∧ (y 1).val < 512 * j + 512
    then p (ix2 ⟨(y 0).val, (y 0).isLt⟩ ⟨(y 1).val - 512 * j, by omega⟩) else s y

/-- The int8 codes of a whole row block `s` with weights `g`: every group of 32 rows as the loop's trip computes it. -/
def codesOf (s : Vec F S512x5120 .bf16) (g : Vec F S1x5120 .f32) : Vec F S512x5120 .i8 :=
  fun y => k1_pay5 (rows32 s ⟨(y 0).val / 32, by have : (y 0).val < 512 := (y 0).isLt; omega⟩) g
    (ix2 ⟨(y 0).val % 32, by omega⟩ ⟨(y 1).val, (y 1).isLt⟩)

/-- The scales of a whole row block. -/
def scaleOf (s : Vec F S512x5120 .bf16) (g : Vec F S1x5120 .f32) : Vec F S512x1 .f32 :=
  fun y => k1_pay4 (rows32 s ⟨(y 0).val / 32, by have : (y 0).val < 512 := (y 0).isLt; omega⟩) g
    (ix2 ⟨(y 0).val % 32, by omega⟩ ⟨(y 1).val, (y 1).isLt⟩)

/-- The last point of a row block: the branch's condition. -/
abbrev cond1_0 (i : grid1.Coords) : Prop := k1_cond1 i = 1#1

/-- One store of a 512×512 block at column `512·j` of the scratch, read back. -/
theorem read_putCols (v : View sig .tc .vmem S512x5120 .bf16) (f : v.ty.Contents (Elt F)) (j : ℕ) (p : Vec F S512x512 .bf16)
    (off : Fin 2 → ℕ) (hoff : off = ![0, 512 * j]) (hin : ∀ a, off a + S512x512.size a ≤ S512x5120.size a) :
    v.read (Elt F) (v.writes (Elt F) f [⟨Rect.unit (s := S512x5120) off S512x512.size hin, p⟩])
      = putCols j p (v.read (Elt F) f) := by
  subst hoff
  funext y
  unfold putCols
  split
  · rename_i h
    refine View.read_writes_cons_hit_of_coords v f _ _ [] _ y ?_
    intro a
    match a with
    | 0 => show (y 0).val = 0 + 1 * (y 0).val; omega
    | 1 => show (y 1).val = 512 * j + 1 * ((y 1).val - 512 * j); omega
  · rename_i h
    refine (View.read_writes_cons_miss_of_axis v f _ [] y 1 (512 * j) 512 rfl rfl rfl (by omega)).trans rfl

/-- What a trip's load of 32 rows reads. -/
theorem ld_rows32 (s : Vec F S512x5120 .bf16) (b : Fin 16) (off : Fin 2 → ℕ) (hoff : off = ![32 * b.val, 0])
    (hin : ∀ a, off a + S32x5120.size a ≤ S512x5120.size a) :
    View.ld s (Rect.unit (s := S512x5120) off S32x5120.size hin) = rows32 s b := by
  subst hoff
  funext x
  refine congrArg s (funext fun a => Fin.ext ?_)
  match a with
  | 0 => show 32 * b.val + 1 * (x 0).val = 32 * b.val + (x 0).val; omega
  | 1 => show 0 + 1 * (x 1).val = (x 1).val; omega

/-- The codes a trip writes are the final codes of its rows. -/
theorem codesOf_piece (s : Vec F S512x5120 .bf16) (g : Vec F S1x5120 .f32) (b : Fin 16) (off : Fin 2 → ℕ) (hoff : off = ![32 * b.val, 0])
    (hin : ∀ a, off a + S32x5120.size a ≤ S512x5120.size a) (x : (Rect.unit (s := S512x5120) off S32x5120.size hin).shape.Idx) :
    k1_pay5 (rows32 s b) g x = codesOf s g ((Rect.unit (s := S512x5120) off S32x5120.size hin).emb x) := by
  subst hoff
  have x0 : (x 0).val < 32 := (x 0).isLt
  have h0 : (((Rect.unit (s := S512x5120) ![32 * b.val, 0] S32x5120.size hin).emb x) 0).val = 32 * b.val + (x 0).val := by
    show 32 * b.val + 1 * (x 0).val = _; omega
  have h1 : (((Rect.unit (s := S512x5120) ![32 * b.val, 0] S32x5120.size hin).emb x) 1).val = (x 1).val := by
    show 0 + 1 * (x 1).val = _; omega
  have hb : (((Rect.unit (s := S512x5120) ![32 * b.val, 0] S32x5120.size hin).emb x) 0).val / 32 = b.val := by rw [h0]; omega
  unfold codesOf
  congr 1
  · congr 1; exact Fin.ext hb.symm
  · funext a
    match a with
    | 0 => exact Fin.ext (by show (x 0).val = _ % 32; rw [h0]; omega)
    | 1 => exact Fin.ext h1.symm

/-- The scales a trip writes are the final scales of its rows. -/
theorem scaleOf_piece (s : Vec F S512x5120 .bf16) (g : Vec F S1x5120 .f32) (b : Fin 16) (off : Fin 2 → ℕ) (hoff : off = ![32 * b.val, 0])
    (hin : ∀ a, off a + S32x1.size a ≤ S512x1.size a) (x : (Rect.unit (s := S512x1) off S32x1.size hin).shape.Idx) :
    k1_pay4 (rows32 s b) g x = scaleOf s g ((Rect.unit (s := S512x1) off S32x1.size hin).emb x) := by
  subst hoff
  have x0 : (x 0).val < 32 := (x 0).isLt
  have h0 : (((Rect.unit (s := S512x1) ![32 * b.val, 0] S32x1.size hin).emb x) 0).val = 32 * b.val + (x 0).val := by
    show 32 * b.val + 1 * (x 0).val = _; omega
  have h1 : (((Rect.unit (s := S512x1) ![32 * b.val, 0] S32x1.size hin).emb x) 1).val = (x 1).val := by
    show 0 + 1 * (x 1).val = _; omega
  have hb : (((Rect.unit (s := S512x1) ![32 * b.val, 0] S32x1.size hin).emb x) 0).val / 32 = b.val := by rw [h0]; omega
  unfold scaleOf
  congr 1
  · congr 1; exact Fin.ext hb.symm
  · funext a
    match a with
    | 0 => exact Fin.ext (by show (x 0).val = _ % 32; rw [h0]; omega)
    | 1 => exact Fin.ext h1.symm

/-! ## The loop: what its sixteen trips leave -/

section Loop
variable (𝒱 : Variants) (c : Dev nD) (bd : Option 𝒱.V) (i : grid1.Coords) (arg2 : Memref sig .tc .vmem S512x8192 .bf16) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1x5120 .f32) (harg5 : arg5.IsWhole) (arg6 : Memref sig .tc .vmem S512x512 .bf16) (harg6 : arg6.IsWhole) (arg7 : Memref sig .tc .vmem S512x5120 .i8) (harg7 : arg7.IsWhole) (arg8 : Memref sig .tc .vmem S512x1 .f32) (harg8 : arg8.IsWhole) (arg9 : Memref sig .tc .vmem S512x5120 .bf16) (harg9 : arg9.IsWhole)
  (h1 : k1_cond1 i = 1#1) (X5 : BufTy.Contents (Elt F) arg5.view.ty) (X9 : BufTy.Contents (Elt F) arg9.view.ty)

/-- The pieces one trip writes: the codes and the scales of its 32 rows. -/
theorem tripL_eq (k : Fin k1_t1_loop.trips) :
    tripL_k1_t1 (F := F) 𝒱 c bd i arg2 harg2 arg3 harg3 arg4 harg4 arg5 harg5 arg6 harg6 arg7 harg7 arg8 harg8 arg9 harg9 h1 X5 X9 k
      = ([⟨Rect.unit (s := S512x5120) (k1_off2 k) S32x5120.size (Gen.k1_off2_inb i k h1),
            k1_pay5 (View.ld (arg9.view.read (Elt F) X9) (Rect.unit (s := S512x5120) (k1_off2 k) S32x5120.size (Gen.k1_off2_inb i k h1)))
              (View.ld (arg5.view.read (Elt F) X5) (Rect.unit (s := S1x5120) ![0, 0] S1x5120.size inb_S1x5120_S1x5120_0_0))⟩],
         [⟨Rect.unit (s := S512x1) (k1_off3 k) S32x1.size (Gen.k1_off3_inb i k h1),
            k1_pay4 (View.ld (arg9.view.read (Elt F) X9) (Rect.unit (s := S512x5120) (k1_off2 k) S32x5120.size (Gen.k1_off2_inb i k h1)))
              (View.ld (arg5.view.read (Elt F) X5) (Rect.unit (s := S1x5120) ![0, 0] S1x5120.size inb_S1x5120_S1x5120_0_0))⟩]) := by
  unfold tripL_k1_t1 trip_k1_t1
  rfl

/-- After the trips before `n` every piece written holds the final values, and the rows before `32·n` are written. -/
theorem pb_spec (n : ℕ) (hn : n ≤ 16) :
    (∀ p ∈ (pb_k1_t1 (F := F) 𝒱 c bd i arg2 harg2 arg3 harg3 arg4 harg4 arg5 harg5 arg6 harg6 arg7 harg7 arg8 harg8 arg9 harg9 h1 X5 X9 n).1,
        ∀ x, p.2 x = codesOf (arg9.view.read (Elt F) X9) (arg5.view.read (Elt F) X5) (p.1.emb x))
    ∧ (∀ p ∈ (pb_k1_t1 (F := F) 𝒱 c bd i arg2 harg2 arg3 harg3 arg4 harg4 arg5 harg5 arg6 harg6 arg7 harg7 arg8 harg8 arg9 harg9 h1 X5 X9 n).2,
        ∀ x, p.2 x = scaleOf (arg9.view.read (Elt F) X9) (arg5.view.read (Elt F) X5) (p.1.emb x))
    ∧ (∀ y : S512x5120.Idx, (y 0).val < 32 * n → ∃ p ∈ (pb_k1_t1 (F := F) 𝒱 c bd i arg2 harg2 arg3 harg3 arg4 harg4 arg5 harg5 arg6 harg6 arg7 harg7 arg8 harg8 arg9 harg9 h1 X5 X9 n).1, y ∈ p.1.set)
    ∧ (∀ y : S512x1.Idx, (y 0).val < 32 * n → ∃ p ∈ (pb_k1_t1 (F := F) 𝒱 c bd i arg2 harg2 arg3 harg3 arg4 harg4 arg5 harg5 arg6 harg6 arg7 harg7 arg8 harg8 arg9 harg9 h1 X5 X9 n).2, y ∈ p.1.set) := by
  induction n with
  | zero =>
    have e : pb_k1_t1 (F := F) 𝒱 c bd i arg2 harg2 arg3 harg3 arg4 harg4 arg5 harg5 arg6 harg6 arg7 harg7 arg8 harg8 arg9 harg9 h1 X5 X9 0 = ([], []) := rfl
    rw [e]
    refine ⟨by simp, by simp, fun y h => by omega, fun y h => by omega⟩
  | succ n ih =>
    obtain ⟨a7, a8, b7, b8⟩ := ih (by omega)
    have ht : k1_t1_loop.trips = 16 := by decide +kernel
    have hk : n < k1_t1_loop.trips := by omega
    rw [pb_k1_t1_succ (F := F) 𝒱 c bd i arg2 harg2 arg3 harg3 arg4 harg4 arg5 harg5 arg6 harg6 arg7 harg7 arg8 harg8 arg9 harg9 h1 X5 X9 ⟨n, hk⟩, tripL_eq]
    have e2 := k1_off2_eq ⟨n, hk⟩
    have e3 := k1_off3_eq ⟨n, hk⟩
    have l9 := ld_rows32 (arg9.view.read (Elt F) X9) ⟨n, by omega⟩ _ e2 (Gen.k1_off2_inb i ⟨n, hk⟩ h1)
    have l5 : View.ld (arg5.view.read (Elt F) X5) (Rect.unit (s := S1x5120) ![0, 0] S1x5120.size inb_S1x5120_S1x5120_0_0) = arg5.view.read (Elt F) X5 :=
      View.ld_unit_zero (by decide) _ _
    rw [l9, l5]; dsimp only
    refine ⟨?_, ?_, ?_, ?_⟩
    · intro p hp
      rcases List.mem_append.mp hp with h | h
      · obtain rfl := List.mem_singleton.mp h
        intro x
        exact codesOf_piece _ _ ⟨n, by omega⟩ _ e2 (Gen.k1_off2_inb i ⟨n, hk⟩ h1) x
      · exact a7 p h
    · intro p hp
      rcases List.mem_append.mp hp with h | h
      · obtain rfl := List.mem_singleton.mp h
        intro x
        exact scaleOf_piece _ _ ⟨n, by omega⟩ _ e3 (Gen.k1_off3_inb i ⟨n, hk⟩ h1) x
      · exact a8 p h
    · intro y hy
      by_cases h : (y 0).val < 32 * n
      · obtain ⟨p, hp, hm⟩ := b7 y h
        exact ⟨p, List.mem_append_right _ hp, hm⟩
      · refine ⟨_, List.mem_append_left _ (List.mem_singleton_self _), ?_⟩
        show y ∈ (Rect.unit (s := S512x5120) (k1_off2 ⟨n, hk⟩) S32x5120.size (Gen.k1_off2_inb i ⟨n, hk⟩ h1)).set
        rw [Rect.mem_set_unit]
        intro a
        match a with
        | 0 => rw [e2]; show 32 * n ≤ (y 0).val ∧ (y 0).val < 32 * n + 32; omega
        | 1 => rw [e2]; show 0 ≤ (y 1).val ∧ (y 1).val < 0 + 5120; have : (y 1).val < 5120 := (y 1).isLt; omega
    · intro y hy
      by_cases h : (y 0).val < 32 * n
      · obtain ⟨p, hp, hm⟩ := b8 y h
        exact ⟨p, List.mem_append_right _ hp, hm⟩
      · refine ⟨_, List.mem_append_left _ (List.mem_singleton_self _), ?_⟩
        show y ∈ (Rect.unit (s := S512x1) (k1_off3 ⟨n, hk⟩) S32x1.size (Gen.k1_off3_inb i ⟨n, hk⟩ h1)).set
        rw [Rect.mem_set_unit]
        intro a
        match a with
        | 0 => rw [e3]; show 32 * n ≤ (y 0).val ∧ (y 0).val < 32 * n + 32; omega
        | 1 => rw [e3]; show 0 ≤ (y 1).val ∧ (y 1).val < 0 + 1; have : (y 1).val < 1 := (y 1).isLt; omega

/-- The codes buffer after the loop. -/
theorem read_pb7 (f : arg7.view.ty.Contents (Elt F)) (n : ℕ) (hn : n = 16) :
    arg7.view.read (Elt F) (arg7.view.writes (Elt F) f (pb_k1_t1 (F := F) 𝒱 c bd i arg2 harg2 arg3 harg3 arg4 harg4 arg5 harg5 arg6 harg6 arg7 harg7 arg8 harg8 arg9 harg9 h1 X5 X9 n).1)
      = codesOf (arg9.view.read (Elt F) X9) (arg5.view.read (Elt F) X5) := by
  subst hn
  obtain ⟨a7, _, b7, _⟩ := pb_spec 𝒱 c bd i arg2 harg2 arg3 harg3 arg4 harg4 arg5 harg5 arg6 harg6 arg7 harg7 arg8 harg8 arg9 harg9 h1 X5 X9 16 le_rfl
  have hc : ∀ y : S512x5120.Idx, (y 0).val < 32 * 16 := fun y => (y 0).isLt
  rw [View.read_writes_eq_canon _ _ _ fun y => b7 y (hc y)]
  funext y
  exact View.canon_apply_of_pieces _ _ a7 y (b7 y (hc y))

/-- The scales buffer after the loop. -/
theorem read_pb8 (f : arg8.view.ty.Contents (Elt F)) (n : ℕ) (hn : n = 16) :
    arg8.view.read (Elt F) (arg8.view.writes (Elt F) f (pb_k1_t1 (F := F) 𝒱 c bd i arg2 harg2 arg3 harg3 arg4 harg4 arg5 harg5 arg6 harg6 arg7 harg7 arg8 harg8 arg9 harg9 h1 X5 X9 n).2)
      = scaleOf (arg9.view.read (Elt F) X9) (arg5.view.read (Elt F) X5) := by
  subst hn
  obtain ⟨_, a8, _, b8⟩ := pb_spec 𝒱 c bd i arg2 harg2 arg3 harg3 arg4 harg4 arg5 harg5 arg6 harg6 arg7 harg7 arg8 harg8 arg9 harg9 h1 X5 X9 16 le_rfl
  have hc : ∀ y : S512x1.Idx, (y 0).val < 32 * 16 := fun y => (y 0).isLt
  rw [View.read_writes_eq_canon _ _ _ fun y => b8 y (hc y)]
  funext y
  exact View.canon_apply_of_pieces _ _ a8 y (b8 y (hc y))

end Loop
/-! ## The two cases of the body -/

/-- The block put into the scratch is the block of `h` just stored. -/
theorem k1_pay2_eq (x0 : Vec F S512x8192 .bf16) (x1 : Vec F S8192x512 .bf16) (x2 : Vec F S512x512 .bf16) : k1_pay2 x0 x1 x2 = k1_pay1 x0 x1 x2 := by
  unfold k1_pay2; exact shapeCast_self _ _

/-- A load of a whole buffer reads its contents. -/
theorem readAt_whole {s : Shape} {e : EltTy} (m : Memref sig .tc .vmem s e) (hm : m.IsWhole) (off : Fin s.rank → ℕ) (h : off = fun _ => 0)
    (hin : ∀ a, off a + s.size a ≤ s.size a) (x : Vec F s e) :
    View.readAt (Elt F) m.view (Rect.unit (s := s) off s.size hin).toLoadRect (hm.unread x) = x := by
  refine (View.readAt_eq_ld m.view _ _).trans ?_
  rw [hm.read_unread]; exact View.ld_unit_zero h _ _

/-- The store of a whole buffer leaves its payload. -/
theorem read_writes_whole {s : Shape} {e : EltTy} (v : View sig .tc .vmem s e) (f : v.ty.Contents (Elt F)) (off : Fin s.rank → ℕ) (h : off = fun _ => 0)
    (hin : ∀ a, off a + s.size a ≤ s.size a) (x : Vec F s e) :
    v.read (Elt F) (v.writes (Elt F) f [⟨Rect.unit (s := s) off s.size hin, x⟩]) = x := by
  subst h
  funext y
  refine View.read_writes_cons_hit_of_coords v f (Rect.unit (s := s) (fun _ => 0) s.size hin) x [] y y fun a => ?_
  show (y a).val = 0 + 1 * (y a).val
  omega

/-- A point that is not the last of its row block: it leaves `h`'s block in output 4, puts the same block into the
    scratch's columns and touches nothing else. -/
theorem body1_A (c : Dev nD) (i : grid1.Coords) (arg2 : Memref sig .tc .vmem S512x8192 .bf16) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1x5120 .f32) (harg5 : arg5.IsWhole) (arg6 : Memref sig .tc .vmem S512x512 .bf16) (harg6 : arg6.IsWhole) (arg7 : Memref sig .tc .vmem S512x5120 .i8) (harg7 : arg7.IsWhole) (arg8 : Memref sig .tc .vmem S512x1 .f32) (harg8 : arg8.IsWhole) (arg9 : Memref sig .tc .vmem S512x5120 .bf16) (harg9 : arg9.IsWhole) (hc0 : ¬cond1_0 i)
    (x0 : Vec F S512x8192 .bf16) (x1 : Vec F S8192x512 .bf16) (x2 : Vec F S512x512 .bf16) (x3 : Vec F S1x5120 .f32) (xi5 : Vec F S512x5120 .i8) (xi6 : Vec F S512x1 .f32) (s : Vec F S512x5120 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay1 x0 x1 x2) ∗ owns (c : Thread nD τ) arg7 fullShare xi5 ∗ owns (c : Thread nD τ) arg8 fullShare xi6 ∗ owns (c : Thread nD τ) arg9 fullShare (putCols (i 1).val (k1_pay1 x0 x1 x2) s)) -∗ K ⟨⟩))
      ⊢ wp frame (wpE (defs₀ (F := F)) Variants.none c none) E (cc1_proj_norm_quant i arg2 harg2 arg3 harg3 arg4 harg4 arg5 harg5 arg6 harg6 arg7 harg7 arg8 harg8 arg9 harg9) K := by
  simp only [cc1_proj_norm_quant_eq_skeleton]; unfold cc1_proj_norm_quant_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, Hk⟩
  obtain rfl := harg2.eq_unread hf0; obtain rfl := harg3.eq_unread hf1; obtain rfl := harg4.eq_unread hf2; obtain rfl := harg5.eq_unread hf3
  obtain rfl := harg7.eq_unread hf5; obtain rfl := harg8.eq_unread hf6
  obtain rfl := harg9.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (read_writes_whole arg6.view _ _ (by decide) _ _).trans ?_
    rw [readAt_whole arg2 harg2 _ (by decide) _ x0, readAt_whole arg3 harg3 _ (by decide) _ x1, readAt_whole arg4 harg4 _ (by decide) _ x2]
  isplitl [H5]
  · iexists _; isplitr; · ipureintro; exact harg7.read_unread _
    iexact H5
  isplitl [H6]
  · iexists _; isplitr; · ipureintro; exact harg8.read_unread _
    iexact H6
  iexists _; isplitr; swap; · iexact HS0
  ipureintro
  rw [read_putCols arg9.view _ (i 1).val _ _ (k1_off1_eq i) _, k1_pay2_eq, harg9.read_unread]
  rw [readAt_whole arg2 harg2 _ (by decide) _ x0, readAt_whole arg3 harg3 _ (by decide) _ x1, readAt_whole arg4 harg4 _ (by decide) _ x2]

/-- The last point of a row block: as the others, and then the codes and the scales of the whole rows, computed from the
    scratch with this point's columns put in. -/
theorem body1_B (c : Dev nD) (i : grid1.Coords) (arg2 : Memref sig .tc .vmem S512x8192 .bf16) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1x5120 .f32) (harg5 : arg5.IsWhole) (arg6 : Memref sig .tc .vmem S512x512 .bf16) (harg6 : arg6.IsWhole) (arg7 : Memref sig .tc .vmem S512x5120 .i8) (harg7 : arg7.IsWhole) (arg8 : Memref sig .tc .vmem S512x1 .f32) (harg8 : arg8.IsWhole) (arg9 : Memref sig .tc .vmem S512x5120 .bf16) (harg9 : arg9.IsWhole) (hc0 : cond1_0 i)
    (x0 : Vec F S512x8192 .bf16) (x1 : Vec F S8192x512 .bf16) (x2 : Vec F S512x512 .bf16) (x3 : Vec F S1x5120 .f32) (s : Vec F S512x5120 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay1 x0 x1 x2) ∗ owns (c : Thread nD τ) arg7 fullShare (codesOf (putCols (i 1).val (k1_pay1 x0 x1 x2) s) x3) ∗ owns (c : Thread nD τ) arg8 fullShare (scaleOf (putCols (i 1).val (k1_pay1 x0 x1 x2) s) x3) ∗ owns (c : Thread nD τ) arg9 fullShare (putCols (i 1).val (k1_pay1 x0 x1 x2) s)) -∗ K ⟨⟩))
      ⊢ wp frame (wpE (defs₀ (F := F)) Variants.none c none) E (cc1_proj_norm_quant i arg2 harg2 arg3 harg3 arg4 harg4 arg5 harg5 arg6 harg6 arg7 harg7 arg8 harg8 arg9 harg9) K := by
  simp only [cc1_proj_norm_quant_eq_skeleton]; unfold cc1_proj_norm_quant_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, Hk⟩
  obtain rfl := harg2.eq_unread hf0; obtain rfl := harg3.eq_unread hf1; obtain rfl := harg4.eq_unread hf2; obtain rfl := harg5.eq_unread hf3
  obtain rfl := harg9.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (read_writes_whole arg6.view _ _ (by decide) _ _).trans ?_
    rw [readAt_whole arg2 harg2 _ (by decide) _ x0, readAt_whole arg3 harg3 _ (by decide) _ x1, readAt_whole arg4 harg4 _ (by decide) _ x2]
  isplitl [H5]
  · iexists _; isplitr; swap; · iexact H5
    ipureintro
    rw [read_pb7 _ _ _ _ _ _ _ _ _ _ _ _ _ _ _ _ _ _ _ _ _ _ _ _ _ (by decide +kernel), harg5.read_unread, read_putCols arg9.view _ (i 1).val _ _ (k1_off1_eq i) _, k1_pay2_eq, harg9.read_unread]
    rw [readAt_whole arg2 harg2 _ (by decide) _ x0, readAt_whole arg3 harg3 _ (by decide) _ x1, readAt_whole arg4 harg4 _ (by decide) _ x2]
  isplitl [H6]
  · iexists _; isplitr; swap; · iexact H6
    ipureintro
    rw [read_pb8 _ _ _ _ _ _ _ _ _ _ _ _ _ _ _ _ _ _ _ _ _ _ _ _ _ (by decide +kernel), harg5.read_unread, read_putCols arg9.view _ (i 1).val _ _ (k1_off1_eq i) _, k1_pay2_eq, harg9.read_unread]
    rw [readAt_whole arg2 harg2 _ (by decide) _ x0, readAt_whole arg3 harg3 _ (by decide) _ x1, readAt_whole arg4 harg4 _ (by decide) _ x2]
  iexists _; isplitr; swap; · iexact HS0
  ipureintro
  rw [read_putCols arg9.view _ (i 1).val _ _ (k1_off1_eq i) _, k1_pay2_eq, harg9.read_unread]
  rw [readAt_whole arg2 harg2 _ (by decide) _ x0, readAt_whole arg3 harg3 _ (by decide) _ x1, readAt_whole arg4 harg4 _ (by decide) _ x2]

end Cert.KernelIdeal.Run
end
-- ==== Proof.ProjRegion.lean ====
/-
The second pallas_call run at any float instance: the blocks its windows hold at a grid point, what the body leaves in
each output block, the row scratch between points, the pipeline's proof data and its body obligation.
-/
module

public import proofs.«01_k».proof.Proof.ProjBody

@[expose] public section

set_option maxRecDepth 16384

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition, in the point's number -/

/-- The condition holds at the points whose number is 9 modulo 10. -/
theorem hcond1_0 : ∀ t : Fin cfg1.N, cond1_0 (grid1.coords t) ↔ t.val % 10 = 9 :=
  (fun t => by
    have ht : t.val < 480 := Nat.lt_of_lt_of_eq t.isLt N_1
    have e0 : (grid1.coords t 0).val = t.val / 10 % 48 := Pipeline.Grid.coords_val t 0 (by decide) rfl
    have e1 : (grid1.coords t 1).val = t.val / 1 % 10 := Pipeline.Grid.coords_val t 1 (by decide) rfl
    simp only [cond1_0, k1_cond1, e0, e1]
    word_cmp
   : ∀ t : Fin grid1.N, cond1_0 (grid1.coords t) ↔ t.val % 10 = 9)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an output stored at every point, under no condition). -/
theorem liveAt1_4 : ∀ t : Fin cfg1.N, cfg1.idle 4 (grid1.coords t) = false := fun _ => rfl
/-- At the points of case A the printed configuration (`Cfg.idle`) calls output 5 idle: the case stores nothing into it. -/
theorem idleAt1_5_A : ∀ t : Fin cfg1.N, ¬cond1_0 (grid1.coords t) → cfg1.idle 5 (grid1.coords t) = true := by decide +kernel
/-- At the points of case A the pipeline does not write output 5's block back. -/
theorem noFlush1_5_A : ∀ t : Fin cfg1.N, ¬cond1_0 (grid1.coords t) → (cfg1.win 5).flush t = false := by decide +kernel
/-- At the points of case B the printed configuration (`Cfg.idle`) calls output 5 live: the case stores into it. -/
theorem liveAt1_5_B : ∀ t : Fin cfg1.N, cond1_0 (grid1.coords t) → cfg1.idle 5 (grid1.coords t) = false := by decide +kernel
/-- At the points of case A the printed configuration (`Cfg.idle`) calls output 6 idle: the case stores nothing into it. -/
theorem idleAt1_6_A : ∀ t : Fin cfg1.N, ¬cond1_0 (grid1.coords t) → cfg1.idle 6 (grid1.coords t) = true := by decide +kernel
/-- At the points of case A the pipeline does not write output 6's block back. -/
theorem noFlush1_6_A : ∀ t : Fin cfg1.N, ¬cond1_0 (grid1.coords t) → (cfg1.win 6).flush t = false := by decide +kernel
/-- At the points of case B the printed configuration (`Cfg.idle`) calls output 6 live: the case stores into it. -/
theorem liveAt1_6_B : ∀ t : Fin cfg1.N, cond1_0 (grid1.coords t) → cfg1.idle 6 (grid1.coords t) = false := by decide +kernel

abbrev ms1_0 (t : Fin cfg1.N) : Memref sig .tc .vmem S512x8192 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x5120 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x5120 .i8 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x1 .f32 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S512x5120 .bf16 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The rows in the scratch -/

/-- A point's column within its row block. -/
theorem coord1 (t : Fin cfg1.N) : (grid1.coords t 1).val = t.val % 10 := by
  have e1 : (grid1.coords t 1).val = t.val / 1 % 10 := Pipeline.Grid.coords_val t 1 (by decide) rfl
  omega

/-- The block of `h` a point computes. -/
def hcol (c : Dev nD) (t : Fin cfg1.N) : Vec F S512x512 .bf16 := k1_pay1 (iblk1 V c 0 t) (iblk1 V c 1 t) (iblk1 V c 2 t)

/-- The whole rows of `h` of row block `b`: its ten points' blocks side by side. -/
def hrow (c : Dev nD) (b : Fin 48) : Vec F S512x5120 .bf16 := fun y =>
  hcol V c ⟨10 * b.val + (y 1).val / 512, by
    have h : (y 1).val < 5120 := (y 1).isLt
    have := b.isLt
    exact lt_of_lt_of_eq (by omega : _ < 480) (show 480 = cfg1.N from N_1.symm)⟩
    (ix2 ⟨(y 0).val, (y 0).isLt⟩ ⟨(y 1).val % 512, Nat.mod_lt _ (by decide)⟩)

/-- The row block of a point. -/
abbrev rowBlk (t : Fin cfg1.N) : Fin 48 := ⟨t.val / 10, by have := lt_of_lt_of_eq t.isLt (show cfg1.N = 480 from N_1); omega⟩

/-- Before point `n` the scratch holds the columns of the current row block that the earlier points of the block put there. -/
def ScrOK (c : Dev nD) (n : ℕ) (d : Vec F S512x5120 .bf16) : Prop :=
  ∀ b : Fin 48, b.val = n / 10 → ∀ y : S512x5120.Idx, (y 1).val < 512 * (n % 10) → d y = hrow V c b y

/-- At the first point of a row block nothing is asked of the scratch. -/
theorem scrOK_first (c : Dev nD) (n : ℕ) (h : n % 10 = 0) (d : Vec F S512x5120 .bf16) : ScrOK V c n d :=
  fun b _ y hy => by rw [h] at hy; omega

/-- A point's store puts the next 512 columns of the rows into the scratch. -/
theorem putCols_ok (c : Dev nD) (t : Fin cfg1.N) (d : Vec F S512x5120 .bf16) (hd : ScrOK V c t.val d)
    (y : S512x5120.Idx) (hy : (y 1).val < 512 * (t.val % 10 + 1)) :
    putCols (grid1.coords t 1).val (hcol V c t) d y = hrow V c (rowBlk t) y := by
  rw [coord1]
  unfold putCols
  split
  · rename_i h
    unfold hrow
    have e : (y 1).val / 512 = t.val % 10 := by omega
    congr 1
    · congr 1; exact Fin.ext (by show t.val = 10 * (t.val / 10) + (y 1).val / 512; omega)
    · congr 1; exact Fin.ext (by show (y 1).val - 512 * (t.val % 10) = (y 1).val % 512; omega)
  · rename_i h
    exact hd _ rfl y (by omega)

/-- The scratch stays right from one point to the next. -/
theorem scrOK_succ (c : Dev nD) (t : Fin cfg1.N) (d : Vec F S512x5120 .bf16) (hd : ScrOK V c t.val d) :
    ScrOK V c (t.val + 1) (putCols (grid1.coords t 1).val (hcol V c t) d) := by
  intro b hb y hy
  by_cases h : t.val % 10 = 9
  · have : (t.val + 1) % 10 = 0 := by omega
    rw [this] at hy; omega
  · have e : b = rowBlk t := Fin.ext (by rw [hb]; show (t.val + 1) / 10 = t.val / 10; omega)
    rw [e]
    exact putCols_ok V c t d hd y (by omega)

/-- At the last point of a row block, its columns put in, the scratch is the whole rows. -/
theorem scr_last (c : Dev nD) (t : Fin cfg1.N) (h : t.val % 10 = 9) (d : Vec F S512x5120 .bf16) (hd : ScrOK V c t.val d) :
    putCols (grid1.coords t 1).val (hcol V c t) d = hrow V c (rowBlk t) := by
  funext y
  have : (y 1).val < 5120 := (y 1).isLt
  exact putCols_ok V c t d hd y (by omega)

/-- The region's invariant before point `n`: the first kernel's staging buffers and the generator register at anything,
    the scratch at contents that are right. -/
def Phi1 (c : Dev nD) (n : ℕ) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d ∗ ⌜ScrOK V c n d⌝)) ∗ (∃ r, prngReg c r))

/-- The invariant forgets what the scratch holds, -/
theorem Phi1_out (c : Dev nD) (n : ℕ) : Phi1 V c n ⊢ (Pipeline.ΦA spec1 c : sProp 𝕄) := by
  rw [PhiA1_eq]; unfold Phi1
  iintro ⟨⟨HR0, HR1, HR2, HR3, HR4, HR5, ⟨%d, HS0, %hd⟩⟩, Hg⟩
  isplitl [HR0 HR1 HR2 HR3 HR4 HR5 HS0]
  · isplitl [HR0]; · iexact HR0
    isplitl [HR1]; · iexact HR1
    isplitl [HR2]; · iexact HR2
    isplitl [HR3]; · iexact HR3
    isplitl [HR4]; · iexact HR4
    isplitl [HR5]; · iexact HR5
    iexists _; iexact HS0
  iexact Hg

/-- and holds at the first point of a row block whatever it holds. -/
theorem Phi1_in (c : Dev nD) (n : ℕ) (h : n % 10 = 0) : (Pipeline.ΦA spec1 c : sProp 𝕄) ⊢ Phi1 V c n := by
  rw [PhiA1_eq]; unfold Phi1
  iintro ⟨⟨HR0, HR1, HR2, HR3, HR4, HR5, ⟨%d, HS0⟩⟩, Hg⟩
  isplitl [HR0 HR1 HR2 HR3 HR4 HR5 HS0]
  · isplitl [HR0]; · iexact HR0
    isplitl [HR1]; · iexact HR1
    isplitl [HR2]; · iexact HR2
    isplitl [HR3]; · iexact HR3
    isplitl [HR4]; · iexact HR4
    isplitl [HR5]; · iexact HR5
    iexists _; isplitl [HS0]; · iexact HS0
    ipureintro; exact scrOK_first V c n h _
  iexact Hg

/-! ## The pipeline's proof data -/

/-- The proof data of pipeline 1 on core `c`: the arrays as the region finds them (`V`); after the body at point `t`
    each input's buffer at its block, the first output's at the block of `h`, the other two's at the codes and the scales
    of the row block (they are written at its last point only); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => hcol V c t
    | ⟨5, _⟩ => codesOf (hrow V c (rowBlk t)) (iblk1 V c 3 t)
    | ⟨6, _⟩ => scaleOf (hrow V c (rowBlk t)) (iblk1 V c 3 t)
  Φ n := Phi1 V c n.val
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = hcol V c t := by dsimp only [dat1]
theorem after1_5 (c : Dev nD) (t : Fin cfg1.N) : (dat1 V c).after 5 t = codesOf (hrow V c (rowBlk t)) (iblk1 V c 3 t) := by dsimp only [dat1]
theorem after1_6 (c : Dev nD) (t : Fin cfg1.N) : (dat1 V c).after 6 t = scaleOf (hrow V c (rowBlk t)) (iblk1 V c 3 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 1600000 in
/-- The body at any point: the inputs' memrefs hold their blocks; the point's number says which case it is in; the
    scratch goes from right contents to right contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.castSucc = Phi1 V c t.val from rfl, show (dat1 V c).Φ t.succ = Phi1 V c (t.val + 1) from rfl]
  unfold Phi1
  have hN : t.val < 480 := lt_of_lt_of_eq t.isLt (show cfg1.N = 480 from N_1)
  by_cases h0 : t.val % 10 = 9
  · rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5_B t ((hcond1_0 t).mpr h0)], after1_5]
    rw [show (dat1 V c).leavesExact 6 t = owns (c : Thread nD τ) (ms1_6 t) fullShare ((dat1 V c).after 6 t) from by
      unfold Dat.leavesExact; rw [liveAt1_6_B t ((hcond1_0 t).mpr h0)], after1_6]
    iintro ⟨⟨⟨HR0, HR1, HR2, HR3, HR4, HR5, ⟨%s, HS0, %hs⟩⟩, Hg⟩, Ho, ⟨%d0, H0⟩, ⟨%d1, H1⟩, ⟨%d2, H2⟩, ⟨%d3, H3⟩, ⟨%d4, H4⟩, ⟨%d5, H5⟩, ⟨%d6, H6⟩⟩
    iapply (body1_B c (grid1.coords t) _ _ _ _ _ _ _ _ _ _ _ _ _ _ _ _ ((hcond1_0 t).mpr h0) (iblk1 V c 0 t) (iblk1 V c 1 t) (iblk1 V c 2 t) (iblk1 V c 3 t) s Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    rw [show k1_pay1 (iblk1 V c 0 t) (iblk1 V c 1 t) (iblk1 V c 2 t) = hcol V c t from rfl, scr_last V c t h0 s hs]
    iintro ⟨H0, H1, H2, H3, H4, H5, H6, HS0⟩
    isplitl [HR0 HR1 HR2 HR3 HR4 HR5 HS0 Hg]
    · isplitl [HR0 HR1 HR2 HR3 HR4 HR5 HS0]
      · isplitl [HR0]
        · iexact HR0
        isplitl [HR1]
        · iexact HR1
        isplitl [HR2]
        · iexact HR2
        isplitl [HR3]
        · iexact HR3
        isplitl [HR4]
        · iexact HR4
        isplitl [HR5]
        · iexact HR5
        iexists _; isplitl [HS0]; · iexact HS0
        ipureintro; rw [← scr_last V c t h0 s hs]; exact scrOK_succ V c t s hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [Dat.leavesExact_idle (dat1 V c) 5 t (idleAt1_5_A t (fun h => h0 ((hcond1_0 t).mp h))) (noFlush1_5_A t (fun h => h0 ((hcond1_0 t).mp h)))]
    rw [Dat.leavesExact_idle (dat1 V c) 6 t (idleAt1_6_A t (fun h => h0 ((hcond1_0 t).mp h))) (noFlush1_6_A t (fun h => h0 ((hcond1_0 t).mp h)))]
    iintro ⟨⟨⟨HR0, HR1, HR2, HR3, HR4, HR5, ⟨%s, HS0, %hs⟩⟩, Hg⟩, Ho, ⟨%d0, H0⟩, ⟨%d1, H1⟩, ⟨%d2, H2⟩, ⟨%d3, H3⟩, ⟨%d4, H4⟩, ⟨%d5, H5⟩, ⟨%d6, H6⟩⟩
    iapply (body1_A c (grid1.coords t) _ _ _ _ _ _ _ _ _ _ _ _ _ _ _ _ (fun h => h0 ((hcond1_0 t).mp h)) (iblk1 V c 0 t) (iblk1 V c 1 t) (iblk1 V c 2 t) (iblk1 V c 3 t) _ _ s Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    rw [show k1_pay1 (iblk1 V c 0 t) (iblk1 V c 1 t) (iblk1 V c 2 t) = hcol V c t from rfl]
    iintro ⟨H0, H1, H2, H3, H4, H5, H6, HS0⟩
    isplitl [HR0 HR1 HR2 HR3 HR4 HR5 HS0 Hg]
    · isplitl [HR0 HR1 HR2 HR3 HR4 HR5 HS0]
      · isplitl [HR0]
        · iexact HR0
        isplitl [HR1]
        · iexact HR1
        isplitl [HR2]
        · iexact HR2
        isplitl [HR3]
        · iexact HR3
        isplitl [HR4]
        · iexact HR4
        isplitl [HR5]
        · iexact HR5
        iexists _; isplitl [HS0]; · iexact HS0
        ipureintro; exact scrOK_succ V c t s hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run
end
-- ==== Proof.Run.lean ====
/-
The whole program run at any float instance: the buffer contents at each boundary between host operations and
pallas_calls, the two calls as segments, and the run from the launch to the return.
-/
module

public import proofs.«01_k».proof.Proof.DequantRegion
public import proofs.«01_k».proof.Proof.ProjRegion
public import Idealize.ShloMosaic.Lib.Pipeline.RegionsLoop
public import Idealize.ShloMosaic.Lib.Pipeline.FrameSuffix

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the segments of the program from the launch to the return -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Phi1 (V3 m ρ) c 0 from rfl]
    refine BIBase.Entails.trans ?_ (Phi1_in (V3 m ρ) c 0 rfl)
    unfold Pipeline.ΦA
    iintro ⟨Hp, -, Hr⟩
    isplitl [Hr]; · iexact Hr
    iexact Hp
  hout c := by
    rw [Pipeline.ownSems0_none, show (pdats m ρ 1 c).Φ (Fin.last _) = Phi1 (V3 m ρ) c (Fin.last cfg1.N).val from rfl]
    refine (Phi1_out (V3 m ρ) c _).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with zero counters every weakly fair execution of the program terminates, nothing faulting, and in
    every final state each unscoped buffer holds the last boundary's contents `W5` and every semaphore counter is zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c => h c, funext fun g => hz g (.inr (no_unscoped g.2))⟩)

/-- The frame: the program terminates, the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c)⟩, h.2⟩) (run_all m ρ)

end Cert.KernelIdeal.Run
end
-- ==== Proof.SameProgram.lean ====
/-
The program as printed and the program the ideal pass printed are the same text: no operation was rewritten. So what is
proved of the second at any float instance holds of the first.
-/
module

public import proofs.«01_k».proof.Kernel
public import proofs.«01_k».proof.KernelIdeal

@[expose] public section

set_option maxRecDepth 65536

noncomputable section

namespace Cert.SameProgram

open Idealize.ShloMosaic Idealize.SL.Sem

variable {F : FTy → Type} [FloatOps F] [Cert.Kernel.Facts] [Cert.KernelIdeal.Facts]

/-- The two programs' pipelines are the same. -/
theorem pcfgs_eq : Cert.Kernel.pcfgs (F := F) = Cert.KernelIdeal.pcfgs (F := F) := by
  funext p
  match p with
  | 0 => rfl
  | 1 => rfl

/-- Their kernel bodies are the same. -/
theorem defs₀_eq : Cert.Kernel.defs₀ (F := F) = Cert.KernelIdeal.defs₀ (F := F) := by
  unfold Cert.Kernel.defs₀ Cert.KernelIdeal.defs₀
  congr 1
  funext l x
  match l, x with
  | 0, x => rfl
  | 1, x => rfl

/-- Their tables of called functions are the same. -/
theorem defs_eq : Cert.Kernel.defs (F := F) = Cert.KernelIdeal.defs (F := F) := by
  unfold Cert.Kernel.defs Cert.KernelIdeal.defs
  exact congrArg (Pipeline.defs Cert.KernelIdeal.pcfgs) defs₀_eq

/-- Their entry points are the same. -/
theorem main_eq : Cert.Kernel.main (F := F) = Cert.KernelIdeal.main (F := F) := by rfl

end Cert.SameProgram
end
-- ==== Proof.RowMath.lean ====
/- The row arithmetic, in plain mathematics over the extended reals: the dequantised weight's code, the root-mean-square
   normalisation of one row, its largest magnitude, its scale and its rounded, clipped quotient. Both programs are shown to
   compute these; no program is mentioned here. -/
module

public import Idealize.ShloMosaic.PureOps.Ideal.Laws
public import Idealize.ShloMosaic.Lib.ValueIdx

@[expose] public section

noncomputable section

namespace Cert.RowMath

open Idealize.ShloMosaic Idealize.ShloMosaic.ValueIdx

/-- Entry `j` of a row `h` divided by its root mean square and weighted by `g`:
    `h j · rsqrt((∑ h²)/5120 + 1e-5) · g j`. -/
def normed (h g : Fin 5120 → EReal) (j : Fin 5120) : EReal :=
  h j * Ideal.rsqrt (Ideal.div (∑ k, h k * h k) (Ideal.ofBits .f32 0x45A00000#32) + Ideal.ofBits .f32 0x3727C5AC#32) * g j

/-- The largest magnitude in the normalised row. -/
def peak (h g : Fin 5120 → EReal) : EReal :=
  Finset.univ.fold max (Ideal.ofBits .f32 0xFF800000#32) fun k => max (normed h g k) (-(normed h g k))

/-- The row's scale: 1 for a row of zeros, else the largest magnitude over 127. -/
def rowScale (h g : Fin 5120 → EReal) : EReal :=
  if peak h g = 0 then 1 else Ideal.div (peak h g) (Ideal.ofBits .f32 0x42FE0000#32)

/-- Entry `j` of the normalised row in units of the scale, rounded half to even and clipped to [-127, 127]. -/
def clipped (h g : Fin 5120 → EReal) (j : Fin 5120) : EReal :=
  min (Ideal.ofBits .f32 0x42FE0000#32)
    (max (Ideal.ofBits .f32 0xC2FE0000#32) (Ideal.liftRound Ideal.roundHalfEven (Ideal.div (normed h g j) (rowScale h g))))

/-- The four bits in row `k` of the unpacked weight as an unsigned number: the low half of the byte for even `k`, the high
    half for odd `k`. -/
def nibble (b : BitVec 8) (k : ℕ) : ℕ := if k % 2 = 0 then b.toNat % 16 else b.toNat / 16

/-- The signed code in row `k` of the unpacked weight: the four bits read in two's complement. -/
def code (b : BitVec 8) (k : ℕ) : ℤ := if 8 ≤ nibble b k then (nibble b k : ℤ) - 16 else nibble b k

/-- The code depends on the row's parity only. -/
theorem code_congr (b : BitVec 8) {k k' : ℕ} (h : k % 2 = k' % 2) : code b k = code b k' := by
  unfold code nibble; rw [h]

/-- The dequantised weight at row `k`: the code times the group's scale. -/
def weight (b : BitVec 8) (s : EReal) (k : ℕ) : EReal := (((code b k : ℤ) : ℝ) : EReal) * s

end Cert.RowMath

end
-- ==== Proof.Payloads.lean ====
/- What one block computes: each stored value of the two kernels, at an index, in the row arithmetic of `RowMath`. -/
module

public import proofs.«01_k».proof.Proof.RowMath
public import proofs.«01_k».proof.Proof.Gen.KernelIdeal.Skeleton
public import Idealize.ShloMosaic.Lib.Pointwise
public import Idealize.ShloMosaic.Lib.Pointwise.IndexBridge

@[expose] public section

noncomputable section

namespace Cert.KernelIdeal.Run

open Cert.KernelIdeal Cert.KernelIdeal.Gen Idealize.ShloMosaic Cert.RowMath

/-- The low four bits of a byte, cut to four bits and read signed, are the code of an even row. -/
theorem lo_code : ∀ b : BitVec 8, ((IntOp.andi (b.setWidth 32) 15#32).setWidth 4).toInt = code b 0 := by
  decide +kernel

/-- The high four bits of a byte, cut to four bits and read signed, are the code of an odd row. -/
theorem hi_code : ∀ b : BitVec 8, ((IntOp.shrsi .vector (b.setWidth 32) 4#32).setWidth 4).toInt = code b 1 := by
  decide +kernel

/-- The dequantising kernel's block: code times scale. -/
theorem deq_apply (p : Vec Ideal S512x1280 .i8) (s : Vec Ideal S8x1280 .f32) (k : Fin 1024) (j : Fin 1280) :
    k0_pay1 p s (ValueIdx.ix2 k j)
      = weight (p (ValueIdx.ix2 ⟨k.val / 2, by omega⟩ j)) (s (ValueIdx.ix2 ⟨k.val / 128, by omega⟩ j)) k.val := by
  simp only [← ix2_eq_valueIdx]
  pointwise [k0_pay1]
  unfold weight
  refine congrArg (· * _) ?_
  show ((BitVec.toInt _ : ℝ) : EReal) = _
  split
  · rw [lo_code, code_congr _ (by omega : 0 % 2 = k.val % 2)]
  · rw [hi_code, code_congr _ (by omega : 1 % 2 = k.val % 2)]

/-- The projection's block: the residual plus the product of a row by a column. -/
theorem proj_apply (x : Vec Ideal S512x8192 .bf16) (w : Vec Ideal S8192x512 .bf16) (y : Vec Ideal S512x512 .bf16)
    (r : Fin 512) (j : Fin 512) :
    k1_pay1 x w y (ValueIdx.ix2 r j)
      = y (ValueIdx.ix2 r j) + ∑ k : Fin 8192, x (ValueIdx.ix2 r k) * w (ValueIdx.ix2 k j) := by
  simp only [← ix2_eq_valueIdx]
  pointwise [k1_pay1]

/-- The normalised rows. -/
theorem normed_apply (v : Vec Ideal S32x5120 .bf16) (g : Vec Ideal S1x5120 .f32) (r : Fin 32) (j : Fin 5120) :
    k1_pay3 v g (ValueIdx.ix2 r j) = normed (fun k => v (ValueIdx.ix2 r k)) (fun k => g (ValueIdx.ix2 0 k)) j := by
  simp only [← ix2_eq_valueIdx]
  pointwise [k1_pay3]
  rfl

/-- The rows' scales. -/
theorem scale_apply (v : Vec Ideal S32x5120 .bf16) (g : Vec Ideal S1x5120 .f32) (r : Fin 32) (j : Fin 1) :
    k1_pay4 v g (ValueIdx.ix2 r j) = rowScale (fun k => v (ValueIdx.ix2 r k)) (fun k => g (ValueIdx.ix2 0 k)) := by
  unfold k1_pay4
  have e := normed_apply v g
  generalize k1_pay3 v g = p at e
  simp only [← ix2_eq_valueIdx] at e ⊢
  pointwise
  simp only [e]
  rfl

/-- The rows' codes, before the claim that the clip leaves nothing for the conversion to saturate. -/
theorem codes_apply (v : Vec Ideal S32x5120 .bf16) (g : Vec Ideal S1x5120 .f32) (r : Fin 32) (j : Fin 5120) :
    k1_pay5 v g (ValueIdx.ix2 r j)
      = Ideal.fptosi 8 (clipped (fun k => v (ValueIdx.ix2 r k)) (fun k => g (ValueIdx.ix2 0 k)) j) := by
  unfold k1_pay5
  have e := normed_apply v g
  have e4 := scale_apply v g
  generalize k1_pay3 v g = p at e
  generalize k1_pay4 v g = q at e4
  simp only [← ix2_eq_valueIdx] at e e4 ⊢
  pointwise
  simp only [e, e4]
  rfl

end Cert.KernelIdeal.Run

end
-- ==== Proof.DequantArray.lean ====
/- What the dequantising call leaves in its array: the weight, every entry a code times its group's scale. -/
module

public import proofs.«01_k».proof.Proof.DequantRegion
public import proofs.«01_k».proof.Proof.Payloads
public import Idealize.ShloMosaic.Lib.Pipeline.ValueKit

@[expose] public section

noncomputable section

namespace Cert.KernelIdeal.Run

open Cert.KernelIdeal Cert.KernelIdeal.Gen Cert.RowMath
open Idealize.ShloMosaic Idealize.ShloMosaic.TcCoe Idealize.ShloMosaic.Pipeline Idealize.SL.RA

variable (V : (c : Dev nD) → (b : Ref sig .tc) → Buf (Elt Ideal) ((c : Thread nD τ).loc b))

/-- The block of each window at a grid point: row block `t / 4`, column block `t % 4`. -/
theorem index0 : ∀ t : Fin cfg0.N, win0_0.index t = ![t.val / 4, t.val % 4] ∧ win0_1.index t = ![t.val / 4, t.val % 4]
    ∧ win0_2.index t = ![t.val / 4, t.val % 4] :=
  (by decide +kernel : ∀ t : Fin grid0.N, _)

/-- The dequantised weight of packed codes `p` and scales `s`. -/
def weights (p : Vec Ideal S4096x5120 .i8) (s : Vec Ideal S64x5120 .f32) : Vec Ideal S8192x5120 .bf16 := fun i =>
  weight (p (ValueIdx.ix2 ⟨(i 0).val / 2, by have := ValueIdx.idx2_lt0 i; omega⟩ ⟨(i 1).val, ValueIdx.idx2_lt1 i⟩))
    (s (ValueIdx.ix2 ⟨(i 0).val / 128, by have := ValueIdx.idx2_lt0 i; omega⟩ ⟨(i 1).val, ValueIdx.idx2_lt1 i⟩)) (i 0).val

/-- The parity of the row decides which half of the byte a weight reads. -/
theorem weight_congr (b : BitVec 8) (s : EReal) {k k' : ℕ} (h : k % 2 = k' % 2) : weight b s k = weight b s k' := by
  unfold weight; rw [code_congr b h]

/-- The output array of the dequantising call is the weight of its two input arrays. -/
theorem dequantised (c : Dev nD) :
    (dat0 V c).arrAt 2 cfg0.N = weights (V c main_arg1) (V c main_arg2) := by
  refine (dat0 V c).arrAt_eq_of_covers 2 _ (by decide +kernel) fun t hf y => ?_
  blk_simp
  obtain ⟨e₀, e₁, e₂⟩ := index0 t
  rw [after0_2]
  unfold out0_2
  frame_out
  obtain ⟨k, j, rfl⟩ : ∃ (k : Fin 1024) (j : Fin 1280), y = ValueIdx.ix2 k j := ⟨y 0, y 1, ValueIdx.eq_ix2 y⟩
  rw [deq_apply]
  unfold weights
  dsimp only
  have ht : t.val < 32 := t.isLt
  have hr : (((win0_2.blk t).view.emb (ValueIdx.ix2 k j)) 0).val = t.val / 4 * 1024 + k.val := by
    blk_simp [e₂]
    rfl
  refine (weight_congr _ _ (k' := (((win0_2.blk t).view.emb (ValueIdx.ix2 k j)) 0).val) ?_).trans ?_
  · rw [hr]
    omega
  · congr 1 <;> blk_ext [iblk0, e₀, e₁, e₂]
    · show _ = (t.val / 4 * 1024 + k.val) / 2
      omega
    · show _ = (t.val / 4 * 1024 + k.val) / 128
      omega

end Cert.KernelIdeal.Run

end
-- ==== Proof.ProjBlocks.lean ====
/- The projecting call's blocks at an index: each is a part of the residual stream after the projection, of the codes of
   its rows or of their scales. -/
module

public import proofs.«01_k».proof.Proof.ProjRegion
public import proofs.«01_k».proof.Proof.Payloads
public import Idealize.ShloMosaic.Lib.Pipeline.ValueKit

@[expose] public section

noncomputable section

namespace Cert.KernelIdeal.Run

open Cert.KernelIdeal Cert.KernelIdeal.Gen Cert.RowMath
open Idealize.ShloMosaic Idealize.ShloMosaic.TcCoe Idealize.ShloMosaic.Pipeline Idealize.SL.RA

variable (V : (c : Dev nD) → (b : Ref sig .tc) → Buf (Elt Ideal) ((c : Thread nD τ).loc b))

/-- The block of each window at a grid point: row block `t / 10`, column block `t % 10`. -/
theorem index1 : ∀ t : Fin cfg1.N, win1_0.index t = ![t.val / 10, 0] ∧ win1_1.index t = ![0, t.val % 10]
    ∧ win1_2.index t = ![t.val / 10, t.val % 10] ∧ win1_3.index t = ![0, 0] ∧ win1_4.index t = ![t.val / 10, t.val % 10]
    ∧ win1_5.index t = ![t.val / 10, 0] ∧ win1_6.index t = ![t.val / 10, 0] :=
  (by decide +kernel : ∀ t : Fin grid1.N, _)

/-- The residual stream after the projection: the residual plus the row of `x` times the column of `w`. -/
def projected (x : Vec Ideal S24576x8192 .bf16) (w : Vec Ideal S8192x5120 .bf16) (y : Vec Ideal S24576x5120 .bf16)
    (r : Fin 24576) (j : Fin 5120) : EReal :=
  y (ValueIdx.ix2 r j) + ∑ k : Fin 8192, x (ValueIdx.ix2 r k) * w (ValueIdx.ix2 k j)

/-- The same of a region's entry contents. -/
abbrev entryRow (c : Dev nD) : Fin 24576 → Fin 5120 → EReal :=
  projected (V c main_v0) (V c main_v2) (V c main_v1)

/-- The norm's weights as a region finds them. -/
abbrev entryGain (c : Dev nD) : Fin 5120 → EReal := fun k => (V c main_v3 : Vec Ideal S1x5120 .f32) (ValueIdx.ix2 0 k)

/-- A block of the projection at an index: the row of the array the block stands at. -/
theorem hcol_apply (c : Dev nD) (t : Fin cfg1.N) (r j : Fin 512) :
    hcol V c t (ValueIdx.ix2 r j)
      = entryRow V c ⟨t.val / 10 * 512 + r.val, by have : t.val < 480 := t.isLt; omega⟩
          ⟨t.val % 10 * 512 + j.val, by omega⟩ := by
  obtain ⟨e₀, e₁, e₂, -⟩ := index1 t
  have ht : t.val < 480 := t.isLt
  unfold hcol
  rw [proj_apply]
  unfold entryRow projected
  refine congrArg₂ (· + ·) ?_ (Finset.sum_congr rfl fun k _ => congrArg₂ (· * ·) ?_ ?_)
  · blk_ext [iblk1, e₂]
  · blk_ext [iblk1, e₀]
  · blk_ext [iblk1, e₁]

/-- A whole row block at an index. -/
theorem hrow_apply (c : Dev nD) (b : Fin 48) (r : Fin 512) (j : Fin 5120) :
    hrow V c b (ValueIdx.ix2 r j) = entryRow V c ⟨b.val * 512 + r.val, by omega⟩ j := by
  unfold hrow
  refine (hcol_apply V c _ _ _).trans ?_
  congr 1 <;> apply Fin.ext
  · show (10 * b.val + j.val / 512) / 10 * 512 + r.val = b.val * 512 + r.val
    omega
  · show (10 * b.val + j.val / 512) % 10 * 512 + j.val % 512 = j.val
    omega

/-- The norm's weights are the same block at every point. -/
theorem gain_apply (c : Dev nD) (t : Fin cfg1.N) (k : Fin 5120) :
    (iblk1 V c 3 t : Vec Ideal S1x5120 .f32) (ValueIdx.ix2 0 k) = entryGain V c k := by
  obtain ⟨-, -, -, e₃, -⟩ := index1 t
  unfold entryGain
  blk_ext [iblk1, e₃]

/-- The codes of a row block at an index. -/
theorem codesOf_apply (c : Dev nD) (b : Fin 48) (t : Fin cfg1.N) (r : Fin 512) (j : Fin 5120) :
    codesOf (hrow V c b) (iblk1 V c 3 t) (ValueIdx.ix2 r j)
      = Ideal.fptosi 8 (clipped (entryRow V c ⟨b.val * 512 + r.val, by omega⟩) (entryGain V c) j) := by
  have hs : ∀ k : Fin 5120, rows32 (hrow V c b) ⟨r.val / 32, by omega⟩ (ValueIdx.ix2 ⟨r.val % 32, by omega⟩ k)
      = entryRow V c ⟨b.val * 512 + r.val, by omega⟩ k := fun k => by
    refine Eq.trans ?_ (hrow_apply V c b r k)
    show hrow V c b _ = _
    congr 1
    congr 1
    apply Fin.ext
    show 32 * (r.val / 32) + r.val % 32 = r.val
    omega
  refine (codes_apply _ _ _ _).trans ?_
  simp only [hs, gain_apply V c t]

/-- The scale of a row block at an index. -/
theorem scaleOf_apply (c : Dev nD) (b : Fin 48) (t : Fin cfg1.N) (r : Fin 512) (j : Fin 1) :
    scaleOf (hrow V c b) (iblk1 V c 3 t) (ValueIdx.ix2 r j)
      = rowScale (entryRow V c ⟨b.val * 512 + r.val, by omega⟩) (entryGain V c) := by
  have hs : ∀ k : Fin 5120, rows32 (hrow V c b) ⟨r.val / 32, by omega⟩ (ValueIdx.ix2 ⟨r.val % 32, by omega⟩ k)
      = entryRow V c ⟨b.val * 512 + r.val, by omega⟩ k := fun k => by
    refine Eq.trans ?_ (hrow_apply V c b r k)
    show hrow V c b _ = _
    congr 1
    congr 1
    apply Fin.ext
    show 32 * (r.val / 32) + r.val % 32 = r.val
    omega
  refine (scale_apply _ _ _ _).trans ?_
  simp only [hs, gain_apply V c t]

/-- The blocks written back cover the first output array. -/
theorem covers_h : (cfg1.win 4).Covers := by decide +kernel

/-- The blocks written back cover the second output array. -/
theorem covers_q : (cfg1.win 5).Covers := by decide +kernel

/-- The blocks written back cover the third output array. -/
theorem covers_s : (cfg1.win 6).Covers := by decide +kernel

/-- The residual stream as an array. -/
def hArr (c : Dev nD) : Vec Ideal S24576x5120 .bf16 := fun i =>
  entryRow V c ⟨(i 0).val, ValueIdx.idx2_lt0 i⟩ ⟨(i 1).val, ValueIdx.idx2_lt1 i⟩

/-- The codes as an array. -/
def qArr (c : Dev nD) : Vec Ideal S24576x5120 .i8 := fun i =>
  Ideal.fptosi 8 (clipped (entryRow V c ⟨(i 0).val, ValueIdx.idx2_lt0 i⟩) (entryGain V c) ⟨(i 1).val, ValueIdx.idx2_lt1 i⟩)

/-- The scales as an array. -/
def sArr (c : Dev nD) : Vec Ideal S24576x1 .f32 := fun i =>
  rowScale (entryRow V c ⟨(i 0).val, ValueIdx.idx2_lt0 i⟩) (entryGain V c)

end Cert.KernelIdeal.Run

end
-- ==== Proof.ProjArray.lean ====
/- What the projecting call leaves in its three arrays: the residual stream after the projection, the codes of its rows
   and their scales. -/
module

public import proofs.«01_k».proof.Proof.ProjBlocks
public import Idealize.ShloMosaic.Lib.Pipeline.ValueKit

@[expose] public section

noncomputable section

namespace Cert.KernelIdeal.Run

open Cert.KernelIdeal Cert.KernelIdeal.Gen Cert.RowMath
open Idealize.ShloMosaic Idealize.ShloMosaic.TcCoe Idealize.ShloMosaic.Pipeline Idealize.SL.RA

variable (V : (c : Dev nD) → (b : Ref sig .tc) → Buf (Elt Ideal) ((c : Thread nD τ).loc b))

/-- The first output array: the residual stream after the projection. -/
theorem final_h (c : Dev nD) : (dat1 V c).arrAt 4 cfg1.N = hArr V c := by
  refine (dat1 V c).arrAt_eq_of_covers 4 _ covers_h fun t hf y => ?_
  blk_simp
  obtain ⟨-, -, -, -, e₄, -⟩ := index1 t
  rw [after1_4]
  obtain ⟨r, j, rfl⟩ : ∃ (r : Fin 512) (j : Fin 512), y = ValueIdx.ix2 r j := ⟨y 0, y 1, ValueIdx.eq_ix2 y⟩
  have hr : (((win1_4.blk t).view.emb (ValueIdx.ix2 r j)) 0).val = t.val / 10 * 512 + r.val := by
    blk_simp [e₄]
    rfl
  have hj : (((win1_4.blk t).view.emb (ValueIdx.ix2 r j)) 1).val = t.val % 10 * 512 + j.val := by
    blk_simp [e₄]
    rfl
  refine (hcol_apply V c t r j).trans ?_
  unfold hArr
  exact congrArg₂ (entryRow V c) (Fin.ext hr.symm) (Fin.ext hj.symm)

/-- The second output array: the codes of the normalised rows. -/
theorem final_q (c : Dev nD) : (dat1 V c).arrAt 5 cfg1.N = qArr V c := by
  refine (dat1 V c).arrAt_eq_of_covers 5 _ covers_q fun t hf y => ?_
  blk_simp
  obtain ⟨-, -, -, -, -, e₅, -⟩ := index1 t
  rw [after1_5]
  obtain ⟨r, j, rfl⟩ : ∃ (r : Fin 512) (j : Fin 5120), y = ValueIdx.ix2 r j := ⟨y 0, y 1, ValueIdx.eq_ix2 y⟩
  have hr : (((win1_5.blk t).view.emb (ValueIdx.ix2 r j)) 0).val = t.val / 10 * 512 + r.val := by
    blk_simp [e₅]
    rfl
  have hj : (((win1_5.blk t).view.emb (ValueIdx.ix2 r j)) 1).val = j.val := by
    blk_simp [e₅]
    rfl
  refine (codesOf_apply V c _ t r j).trans ?_
  unfold qArr
  exact congrArg₂ (fun a b => Ideal.fptosi 8 (clipped (entryRow V c a) (entryGain V c) b)) (Fin.ext hr.symm) (Fin.ext hj.symm)

/-- The third output array: the rows' scales. -/
theorem final_s (c : Dev nD) : (dat1 V c).arrAt 6 cfg1.N = sArr V c := by
  refine (dat1 V c).arrAt_eq_of_covers 6 _ covers_s fun t hf y => ?_
  blk_simp
  obtain ⟨-, -, -, -, -, -, e₆⟩ := index1 t
  rw [after1_6]
  obtain ⟨r, j, rfl⟩ : ∃ (r : Fin 512) (j : Fin 1), y = ValueIdx.ix2 r j := ⟨y 0, y 1, ValueIdx.eq_ix2 y⟩
  have hr : (((win1_6.blk t).view.emb (ValueIdx.ix2 r j)) 0).val = t.val / 10 * 512 + r.val := by
    blk_simp [e₆]
    rfl
  refine (scaleOf_apply V c _ t r j).trans ?_
  unfold sArr
  exact congrArg (fun a => rowScale (entryRow V c a) (entryGain V c)) (Fin.ext hr.symm)

end Cert.KernelIdeal.Run

end
-- ==== Proof.KernelValue.lean ====
/- The kernel's three results as functions of the five arguments. -/
module

public import proofs.«01_k».proof.Proof.Run
public import proofs.«01_k».proof.Proof.DequantArray
public import proofs.«01_k».proof.Proof.ProjArray
public import Idealize.ShloMosaic.Lib.Pointwise
public import Idealize.ShloMosaic.Lib.Pointwise.IndexBridge

@[expose] public section

noncomputable section

namespace Cert.KernelIdeal.Run

open Cert.KernelIdeal Cert.KernelIdeal.Gen Cert.RowMath
open Idealize.ShloMosaic Idealize.ShloMosaic.TcCoe

variable (m : (ℓ : Loc nD τ sig) → Buf (Elt Ideal) ℓ) (ρ : Dev nD → PrngReg)

/-- The projecting call's first operand: the activations with the batch and the sequence joined. -/
theorem V3_v0 (c : Dev nD) : V3 m ρ c main_v0
    = shapeCast S24576x8192 (m ((c : Thread nD τ).loc main_arg0) : Vec Ideal S24x1024x8192 .bf16) shapeCasts_S24x1024x8192_S24576x8192 := by
  refine (W3_of m ρ c main_v0 (by decide)).trans ((W2_of_ne m ρ c main_v0 (by decide)).trans ?_)
  unfold W1
  after_results_simp
  rfl

/-- The projecting call's residual: the residual with the batch and the sequence joined. -/
theorem V3_v1 (c : Dev nD) : V3 m ρ c main_v1
    = shapeCast S24576x5120 (m ((c : Thread nD τ).loc main_arg3) : Vec Ideal S24x1024x5120 .bf16) shapeCasts_S24x1024x5120_S24576x5120 := by
  refine (W3_of m ρ c main_v1 (by decide)).trans ((W2_of_ne m ρ c main_v1 (by decide)).trans ?_)
  unfold W1
  after_results_simp
  rfl

/-- The projecting call's weight: the dequantised weight of the two weight arguments. -/
theorem V3_v2 (c : Dev nD) : V3 m ρ c main_v2
    = weights (m ((c : Thread nD τ).loc main_arg1)) (m ((c : Thread nD τ).loc main_arg2)) := by
  refine (W3_of m ρ c main_v2 (by decide)).trans ((W2_arr m ρ c 2).trans ((dequantised (V1 m ρ) c).trans ?_))
  exact congrArg₂ weights (W1_args m ρ c main_arg1 (by decide)) (W1_args m ρ c main_arg2 (by decide))

/-- The projecting call's norm weights: the argument as one row. -/
theorem V3_v3 (c : Dev nD) : V3 m ρ c main_v3
    = shapeCast S1x5120 (m ((c : Thread nD τ).loc main_arg4) : Vec Ideal S5120 .f32) shapeCasts_S5120_S1x5120 := by
  have e : W2 m ρ c (Proc.devRef .tc main_arg4) = m ((c : Thread nD τ).loc main_arg4) := W2_args m ρ c main_arg4 (by decide)
  show W3 m ρ c (Proc.devRef .tc main_v3) = _
  unfold W3
  after_results_simp
  rw [e]
  rfl

/-- The first result: the first output array with batch and sequence split. -/
theorem W5_v5 (c : Dev nD) : W5 m ρ c (Proc.devRef .tc main_v5)
    = shapeCast S24x1024x5120 (hArr (V3 m ρ) c) shapeCasts_S24576x5120_S24x1024x5120 := by
  have e : W4 m ρ c (Proc.devRef .tc main_v4_0) = hArr (V3 m ρ) c := (W4_arr m ρ c 4).trans (final_h (V3 m ρ) c)
  unfold W5
  after_results_simp
  rw [e]
  rfl

/-- The second result: the codes with batch and sequence split. -/
theorem W5_v6 (c : Dev nD) : W5 m ρ c (Proc.devRef .tc main_v6)
    = shapeCast S24x1024x5120 (qArr (V3 m ρ) c) shapeCasts_S24576x5120_S24x1024x5120 := by
  have e : W4 m ρ c (Proc.devRef .tc main_v4_1) = qArr (V3 m ρ) c := (W4_arr m ρ c 5).trans (final_q (V3 m ρ) c)
  unfold W5
  after_results_simp
  rw [e]
  rfl

/-- The third result: the scales with batch and sequence split. -/
theorem W5_v7 (c : Dev nD) : W5 m ρ c (Proc.devRef .tc main_v7)
    = shapeCast S24x1024x1 (sArr (V3 m ρ) c) shapeCasts_S24576x1_S24x1024x1 := by
  have e : W4 m ρ c (Proc.devRef .tc main_v4_2) = sArr (V3 m ρ) c := (W4_arr m ρ c 6).trans (final_s (V3 m ρ) c)
  unfold W5
  after_results_simp
  rw [e]
  rfl

end Cert.KernelIdeal.Run

end
-- ==== Proof.Reference.lean ====
/- What the reference computes, at an index, in the row arithmetic of `RowMath`. -/
module

public import proofs.«01_k».proof.Proof.RowMath
public import proofs.«01_k».proof.Proof.Gen.ReferenceIdeal.Read
public import Idealize.ShloMosaic.Lib.Pointwise
public import Idealize.ShloMosaic.Lib.Pointwise.IndexBridge
public import Idealize.ShloMosaic.Lib.KernelVsHost

@[expose] public section

noncomputable section

namespace Cert.ReferenceIdeal.Rows

open Cert.ReferenceIdeal Cert.ReferenceIdeal.Gen Cert.ReferenceIdeal.Read Idealize.ShloMosaic Cert.RowMath

/-- The low half of a byte, shifted down by sixteen from eight on, is the code of an even row. -/
theorem lo_code : ∀ b : BitVec 8, (Scalar.select (IntOp.cmpi .sge (IntOp.andi (b.setWidth 32) 15#32) 8#32)
    (IntOp.subi (IntOp.andi (b.setWidth 32) 15#32) 16#32) (IntOp.andi (b.setWidth 32) 15#32)).toInt = code b 0 := by
  decide +kernel

/-- The high half of a byte, shifted down by sixteen from eight on, is the code of an odd row. -/
theorem hi_code : ∀ b : BitVec 8, (Scalar.select (IntOp.cmpi .sge (IntOp.shrsi .host (b.setWidth 32) 4#32) 8#32)
    (IntOp.subi (IntOp.shrsi .host (b.setWidth 32) 4#32) 16#32) (IntOp.shrsi .host (b.setWidth 32) 4#32)).toInt = code b 1 := by
  decide +kernel

/-- The even rows' codes. -/
theorem v9_apply (x1 : Vec Ideal S4096x5120 .i8) (i : S4096x5120.Idx) :
    ((val_main_v9 (F := Ideal) x1 i : BitVec 32)).toInt = code (x1 i) 0 := by
  exact lo_code (x1 i)

/-- The odd rows' codes. -/
theorem v14_apply (x1 : Vec Ideal S4096x5120 .i8) (i : S4096x5120.Idx) :
    ((val_main_v14 (F := Ideal) x1 i : BitVec 32)).toInt = code (x1 i) 1 := by
  exact hi_code (x1 i)

/-- The dequantised weight. -/
theorem weight_apply (x1 : Vec Ideal S4096x5120 .i8) (x2 : Vec Ideal S64x5120 .f32) (k : Fin 8192) (j : Fin 5120) :
    val_main_v25 (F := Ideal) x1 x2 (ValueIdx.ix2 k j)
      = weight (x1 (ValueIdx.ix2 ⟨k.val / 2, by omega⟩ j)) (x2 (ValueIdx.ix2 ⟨k.val / 128, by omega⟩ j)) k.val := by
  simp only [← ix2_eq_valueIdx]
  unfold val_main_v25 val_main_v24 val_main_v23 val_main_v22 val_main_v21 val_main_v20 val_main_v19 val_main_v18 val_main_v17
    val_main_v16 val_main_v15
  have e0 := v9_apply x1
  have e1 := v14_apply x1
  generalize val_main_v9 (F := Ideal) x1 = p at e0
  generalize val_main_v14 (F := Ideal) x1 = q at e1
  pointwise
  unfold weight
  refine congrArg (· * _) ?_
  show ((BitVec.toInt _ : ℝ) : EReal) = _
  split
  · rw [e0, code_congr _ (by omega : 0 % 2 = k.val % 2)]
  · rw [e1, code_congr _ (by omega : 1 % 2 = k.val % 2)]

/-- The residual stream after the projection. -/
theorem h_apply (x0 : Vec Ideal S24x1024x8192 .bf16) (x1 : Vec Ideal S4096x5120 .i8) (x2 : Vec Ideal S64x5120 .f32)
    (x3 : Vec Ideal S24x1024x5120 .bf16) (a : Fin 24) (b : Fin 1024) (j : Fin 5120) :
    val_main_v29 (F := Ideal) x0 x1 x2 x3 (ix3 a b j)
      = x3 (ix3 a b j) + ∑ k : Fin 8192, x0 (ix3 a b k) * val_main_v25 (F := Ideal) x1 x2 (ix2 k j) := by
  unfold val_main_v29 val_main_v28 val_main_v27 val_main_v26
  generalize val_main_v25 (F := Ideal) x1 x2 = p
  pointwise

/-- The normalised rows. -/
theorem n_apply (x0 : Vec Ideal S24x1024x8192 .bf16) (x1 : Vec Ideal S4096x5120 .i8) (x2 : Vec Ideal S64x5120 .f32)
    (x3 : Vec Ideal S24x1024x5120 .bf16) (x4 : Vec Ideal S5120 .f32) (a : Fin 24) (b : Fin 1024) (j : Fin 5120) :
    val_main_v43 (F := Ideal) x0 x1 x2 x3 x4 (ix3 a b j)
      = normed (fun k => val_main_v29 (F := Ideal) x0 x1 x2 x3 (ix3 a b k)) (fun k => x4 (ix1 k)) j := by
  unfold val_main_v43 val_main_v42 val_main_v41 val_main_v40 val_main_v39 val_main_v38 val_main_v37 val_main_v36 val_main_v35
    val_main_v34 val_main_v33 val_main_v32 val_main_v31 val_main_v30 val_main_cst val_main_cst_5 val_main_cst_6
  generalize val_main_v29 (F := Ideal) x0 x1 x2 x3 = p
  pointwise
  rfl

/-- The greatest magnitude of a row, as the host's reduction. -/
theorem max_apply (p : Vec Ideal S24x1024x5120 .f32) (a : Fin 24) (b : Fin 1024) :
    Host.reduce (FloatOps.maximumf (F := Ideal) (φ := .f32)) p (val_main_cst_7 (F := Ideal)) reducesTo_S24x1024x5120_S24x1024_d2 h_S_ (ix2 a b)
      = Finset.univ.fold max (Ideal.ofBits .f32 0xFF800000#32) fun k : Fin 5120 => p (ix3 a b k) := by
  unfold val_main_cst_7
  pointwise

/-- The rows' scales. -/
theorem s_apply (x0 : Vec Ideal S24x1024x8192 .bf16) (x1 : Vec Ideal S4096x5120 .i8) (x2 : Vec Ideal S64x5120 .f32)
    (x3 : Vec Ideal S24x1024x5120 .bf16) (x4 : Vec Ideal S5120 .f32) (a : Fin 24) (b : Fin 1024) (j : Fin 1) :
    val_main_v51 (F := Ideal) x0 x1 x2 x3 x4 (ix3 a b j)
      = rowScale (fun k => val_main_v29 (F := Ideal) x0 x1 x2 x3 (ix3 a b k)) (fun k => x4 (ix1 k)) := by
  have e : val_main_v46 (F := Ideal) x0 x1 x2 x3 x4 (ix3 a b j)
      = peak (fun k => val_main_v29 (F := Ideal) x0 x1 x2 x3 (ix3 a b k)) (fun k => x4 (ix1 k)) := by
    have hi : idx_main_v46 (ix3 a b j) = ix2 a b := by
      funext x
      match x with
      | ⟨0, _⟩ => rfl
      | ⟨1, _⟩ => rfl
    rw [val_main_v46_apply, hi]
    unfold val_main_v45
    refine (max_apply _ a b).trans ?_
    unfold peak
    refine congrArg (Finset.fold max _ · Finset.univ) (funext fun k => ?_)
    rw [val_main_v44_apply, n_apply]
    rfl
  rw [val_main_v51_apply, val_main_v48_apply, val_main_v47_apply, val_main_cst_8_apply, val_main_call2_v1_apply,
    val_main_call2_v0_apply, val_main_cst_10_apply, val_main_v50_apply, val_main_v49_apply, val_main_cst_9_apply, e]
  unfold rowScale
  generalize peak (fun k => val_main_v29 (F := Ideal) x0 x1 x2 x3 (ix3 a b k)) (fun k => x4 (ix1 k)) = t
  pointwise

/-- The rows' codes. -/
theorem q_apply (x0 : Vec Ideal S24x1024x8192 .bf16) (x1 : Vec Ideal S4096x5120 .i8) (x2 : Vec Ideal S64x5120 .f32)
    (x3 : Vec Ideal S24x1024x5120 .bf16) (x4 : Vec Ideal S5120 .f32) (a : Fin 24) (b : Fin 1024) (j : Fin 5120) :
    val_main_v57 (F := Ideal) x0 x1 x2 x3 x4 (ix3 a b j)
      = (Ideal.fptosi 32 (clipped (fun k => val_main_v29 (F := Ideal) x0 x1 x2 x3 (ix3 a b k)) (fun k => x4 (ix1 k)) j)).setWidth 8 := by
  have hi : idx_main_v52 (ix3 a b j) = ix3 a b 0 := by
    funext x
    match x with
    | ⟨0, _⟩ => rfl
    | ⟨1, _⟩ => rfl
    | ⟨2, _⟩ => rfl
  rw [val_main_v57_apply, val_main_v56_apply, val_main_v55_apply, val_main_call4_v4_apply, val_main_call4_v3_apply,
    val_main_cst_12_apply, val_main_call4_v2_apply, val_main_call4_v1_apply, val_main_call4_v0_apply, val_main_cst_11_apply,
    val_main_v54_apply, val_main_v53_apply, val_main_v52_apply, hi, n_apply, s_apply]
  unfold clipped
  generalize normed (fun k => val_main_v29 (F := Ideal) x0 x1 x2 x3 (ix3 a b k)) (fun k => x4 (ix1 k)) j = n
  generalize rowScale (fun k => val_main_v29 (F := Ideal) x0 x1 x2 x3 (ix3 a b k)) (fun k => x4 (ix1 k)) = t
  pointwise
  rfl

end Cert.ReferenceIdeal.Rows

end
-- ==== Proof.Saturate.lean ====
/- After the clip no conversion saturates: a clipped value converted to eight bits is its conversion to thirty-two bits cut
   to eight. -/
module

public import proofs.«01_k».proof.Proof.RowMath

@[expose] public section

noncomputable section

namespace Cert.RowMath

open Idealize.ShloMosaic

/-- The upper end of the clip is 127. -/
theorem clip_hi : Ideal.ofBits .f32 0x42FE0000#32 = ((127 : ℝ) : EReal) := by
  simp [Ideal.ofBits, Ideal.ieee, -EReal.coe_mul]; norm_num

/-- The lower end of the clip is -127. -/
theorem clip_lo : Ideal.ofBits .f32 0xC2FE0000#32 = ((-127 : ℝ) : EReal) := by
  simp [Ideal.ofBits, Ideal.ieee, -EReal.coe_mul, -EReal.coe_neg]; norm_num

/-- A real between -127 and 127 rounded toward zero stays between -127 and 127. -/
theorem trunc_bounds (r : ℝ) (h₁ : -127 ≤ r) (h₂ : r ≤ 127) :
    -127 ≤ (if 0 ≤ r then ⌊r⌋ else ⌈r⌉) ∧ (if 0 ≤ r then ⌊r⌋ else ⌈r⌉) ≤ 127 := by
  split
  · exact ⟨Int.le_floor.mpr (by push_cast; linarith), by
      have : ⌊r⌋ ≤ ⌊(127 : ℝ)⌋ := Int.floor_le_floor h₂
      simpa using this⟩
  · exact ⟨by
      have : ⌈(((-127 : ℤ)) : ℝ)⌉ ≤ ⌈r⌉ := Int.ceil_le_ceil (by push_cast; exact h₁)
      rwa [Int.ceil_intCast] at this, Int.ceil_le.mpr (by push_cast; linarith)⟩

/-- Of a real between -127 and 127 the conversion to eight bits is the conversion to thirty-two bits cut to eight. -/
theorem fptosi_narrow (r : ℝ) (h₁ : -127 ≤ r) (h₂ : r ≤ 127) :
    Ideal.fptosi 8 ((r : ℝ) : EReal) = (Ideal.fptosi 32 ((r : ℝ) : EReal)).setWidth 8 := by
  obtain ⟨b₁, b₂⟩ := trunc_bounds r h₁ h₂
  unfold Ideal.fptosi
  rw [Ideal.toIntClamped_coe, Ideal.toIntClamped_coe]
  generalize (if 0 ≤ r then ⌊r⌋ else ⌈r⌉) = n at b₁ b₂
  have e₁ : max (-((2 ^ (8 - 1) : ℕ) : ℤ)) (min (((2 ^ (8 - 1) : ℕ) : ℤ) - 1) n) = n := by norm_num; omega
  have e₂ : max (-((2 ^ (32 - 1) : ℕ) : ℤ)) (min (((2 ^ (32 - 1) : ℕ) : ℤ) - 1) n) = n := by norm_num; omega
  rw [e₁, e₂]
  interval_cases n <;> rfl

/-- A clipped value is a real between -127 and 127. -/
theorem clipped_real (h g : Fin 5120 → EReal) (j : Fin 5120) : ∃ r : ℝ, -127 ≤ r ∧ r ≤ 127 ∧ clipped h g j = ((r : ℝ) : EReal) := by
  unfold clipped
  rw [clip_hi, clip_lo]
  generalize Ideal.liftRound Ideal.roundHalfEven (Ideal.div (normed h g j) (rowScale h g)) = y
  induction y using EReal.rec with
  | bot => exact ⟨-127, le_rfl, by norm_num, by
      rw [max_eq_left bot_le, min_eq_right (EReal.coe_le_coe_iff.mpr (by norm_num))]⟩
  | coe y => exact ⟨min 127 (max (-127) y), le_min (by norm_num) (le_max_left _ _), min_le_left _ _, by
      rw [← EReal.coe_strictMono.monotone.map_max, ← EReal.coe_strictMono.monotone.map_min]⟩
  | top => exact ⟨127, by norm_num, le_rfl, by
      rw [max_eq_right le_top, min_eq_left le_top]⟩

/-- The clipped value's conversion to eight bits is its conversion to thirty-two bits cut to eight. -/
theorem fptosi_clipped (h g : Fin 5120 → EReal) (j : Fin 5120) :
    Ideal.fptosi 8 (clipped h g j) = (Ideal.fptosi 32 (clipped h g j)).setWidth 8 := by
  obtain ⟨r, h₁, h₂, e⟩ := clipped_real h g j
  rw [e]
  exact fptosi_narrow r h₁ h₂

end Cert.RowMath

end
-- ==== Proof.Equation.lean ====
/- The equation: each of the kernel's results is the reference's, index by index. -/
module

public import proofs.«01_k».proof.Proof.KernelValue
public import proofs.«01_k».proof.Proof.Reference
public import proofs.«01_k».proof.Proof.Saturate

@[expose] public section

noncomputable section

namespace Cert.KernelIdeal.Run

open Cert.KernelIdeal Cert.KernelIdeal.Gen Cert.RowMath
open Cert.ReferenceIdeal.Read (val_main_v25 val_main_v29 val_main_v51 val_main_v57)
open Idealize.ShloMosaic Idealize.ShloMosaic.TcCoe

/-- A row of the joined residual stream is a row of the reference's. -/
theorem projected_eq (x0 : Vec Ideal S24x1024x8192 .bf16) (x1 : Vec Ideal S4096x5120 .i8) (x2 : Vec Ideal S64x5120 .f32)
    (x3 : Vec Ideal S24x1024x5120 .bf16) (a : Fin 24) (b : Fin 1024) (j : Fin 5120) :
    projected (shapeCast S24576x8192 x0 shapeCasts_S24x1024x8192_S24576x8192) (weights x1 x2)
        (shapeCast S24576x5120 x3 shapeCasts_S24x1024x5120_S24576x5120) ⟨a.val * 1024 + b.val, by omega⟩ j
      = val_main_v29 (F := Ideal) x0 x1 x2 x3 (ix3 a b j) := by
  rw [Cert.ReferenceIdeal.Rows.h_apply]
  unfold projected
  refine congrArg₂ (· + ·) ?_ (Finset.sum_congr rfl fun k _ => congrArg₂ (· * ·) ?_ ?_)
  · simp only [← ix2_eq_valueIdx]
    pointwise
  · simp only [← ix2_eq_valueIdx]
    pointwise
  · refine Eq.trans ?_ ((congrArg _ (ix2_eq_valueIdx k j)).trans (Cert.ReferenceIdeal.Rows.weight_apply x1 x2 k j)).symm
    rfl

/-- The norm's weights read through their one-row copy. -/
theorem gain_eq (x4 : Vec Ideal S5120 .f32) (k : Fin 5120) :
    shapeCast S1x5120 x4 shapeCasts_S5120_S1x5120 (ValueIdx.ix2 0 k) = x4 (ix1 k) := by
  rw [← ix2_eq_valueIdx]
  pointwise

variable (m : (ℓ : Loc nD τ sig) → Buf (Elt Ideal) ℓ) (ρ : Dev nD → PrngReg)

/-- The residual stream of the arguments, at an index. -/
def refH (c : Dev nD) : Vec Ideal S24x1024x5120 .bf16 :=
  val_main_v29 (F := Ideal) (m ((c : Thread nD τ).loc main_arg0)) (m ((c : Thread nD τ).loc main_arg1))
    (m ((c : Thread nD τ).loc main_arg2)) (m ((c : Thread nD τ).loc main_arg3))

/-- The codes of the arguments, at an index. -/
def refQ (c : Dev nD) : Vec Ideal S24x1024x5120 .i8 :=
  val_main_v57 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The scales of the arguments, at an index. -/
def refS (c : Dev nD) : Vec Ideal S24x1024x1 .f32 :=
  val_main_v51 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- A row of the projecting call's residual stream is a row of the reference's. -/
theorem entryRow_eq (c : Dev nD) (a : Fin 24) (b : Fin 1024) (j : Fin 5120) :
    entryRow (V3 m ρ) c ⟨a.val * 1024 + b.val, by omega⟩ j = refH m c (ix3 a b j) := by
  unfold entryRow
  rw [V3_v0, V3_v1, V3_v2]
  exact projected_eq _ _ _ _ a b j

/-- The projecting call's norm weights are the argument. -/
theorem entryGain_eq (c : Dev nD) (k : Fin 5120) :
    entryGain (V3 m ρ) c k = (m ((c : Thread nD τ).loc main_arg4) : Vec Ideal S5120 .f32) (ix1 k) := by
  unfold entryGain
  rw [V3_v3]
  exact gain_eq _ k

/-- An index of three axes by its coordinates. -/
theorem eq_ix3' {A B C : ℕ} (i : (⟨3, ![A, B, C]⟩ : Shape).Idx) : ∃ (a : Fin A) (b : Fin B) (c : Fin C), i = ix3 a b c :=
  ⟨i 0, i 1, i 2, by
    funext x
    match x with
    | ⟨0, _⟩ => rfl
    | ⟨1, _⟩ => rfl
    | ⟨2, _⟩ => rfl⟩

/-- The first result is the reference's. -/
theorem result_h (c : Dev nD) : W5 m ρ c (Proc.devRef .tc main_v5) = refH m c := by
  rw [W5_v5]
  funext i
  obtain ⟨a, b, j, rfl⟩ := eq_ix3' i
  refine Eq.trans ?_ (entryRow_eq m ρ c a b j)
  have e : ∀ r j, hArr (V3 m ρ) c (ix2 r j) = entryRow (V3 m ρ) c r j := fun r j => rfl
  generalize hArr (V3 m ρ) c = p at e
  pointwise
  rw [e]

/-- The second result is the reference's: the clip leaves nothing to saturate. -/
theorem result_q (c : Dev nD) : W5 m ρ c (Proc.devRef .tc main_v6) = refQ m c := by
  rw [W5_v6]
  funext i
  obtain ⟨a, b, j, rfl⟩ := eq_ix3' i
  have hH : entryRow (V3 m ρ) c ⟨a.val * 1024 + b.val, by omega⟩ = fun k => refH m c (ix3 a b k) :=
    funext (entryRow_eq m ρ c a b)
  have hG : entryGain (V3 m ρ) c = fun k => (m ((c : Thread nD τ).loc main_arg4) : Vec Ideal S5120 .f32) (ix1 k) :=
    funext (entryGain_eq m ρ c)
  have e : ∀ r j, qArr (V3 m ρ) c (ix2 r j) = Ideal.fptosi 8 (clipped (entryRow (V3 m ρ) c r) (entryGain (V3 m ρ) c) j) :=
    fun r j => rfl
  refine Eq.trans ?_ (Cert.ReferenceIdeal.Rows.q_apply _ _ _ _ _ a b j).symm
  rw [← fptosi_clipped]
  generalize qArr (V3 m ρ) c = p at e
  pointwise
  rw [e, hH, hG]
  rfl

/-- The third result is the reference's. -/
theorem result_s (c : Dev nD) : W5 m ρ c (Proc.devRef .tc main_v7) = refS m c := by
  rw [W5_v7]
  funext i
  obtain ⟨a, b, j, rfl⟩ := eq_ix3' i
  have hH : entryRow (V3 m ρ) c ⟨a.val * 1024 + b.val, by omega⟩ = fun k => refH m c (ix3 a b k) :=
    funext (entryRow_eq m ρ c a b)
  have hG : entryGain (V3 m ρ) c = fun k => (m ((c : Thread nD τ).loc main_arg4) : Vec Ideal S5120 .f32) (ix1 k) :=
    funext (entryGain_eq m ρ c)
  have e : ∀ r j, sArr (V3 m ρ) c (ix2 r j) = rowScale (entryRow (V3 m ρ) c r) (entryGain (V3 m ρ) c) := fun r j => rfl
  refine Eq.trans ?_ (Cert.ReferenceIdeal.Rows.s_apply _ _ _ _ _ a b j).symm
  generalize sArr (V3 m ρ) c = p at e
  pointwise
  rw [e, hH, hG]
  rfl

end Cert.KernelIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.SameProgram
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The printed program's frame: the ideal program's at the bit-exact floats, the two being the same text. -/
theorem quiescent_kernel : Cert.quiescent_Kernel := fun m g _ =>
  (congrArg (fun d => θ_run d (onTc (τ := Cert.KernelIdeal.τ) (Cert.KernelIdeal.main (F := Bits))) ⟨m, fun _ => 0, g⟩ _)
    (Cert.SameProgram.defs_eq (F := Bits))).mpr (Cert.KernelIdeal.Run.frame (F := Bits) m g)

/-- The reference's frame: its arguments stay, and it declares no semaphore. -/
theorem quiescent_reference : Cert.quiescent_ReferenceIdeal := fun m g _ =>
  (θ_run Cert.ReferenceIdeal.defs _ _).mono
    (fun r h => ⟨fun c => (h c).2.2.2, sem_eq_zero_of_no_sems (by decide) r.2⟩)
    (Cert.ReferenceIdeal.Value.run (F := Ideal) m g)

/-- From memories agreeing on the arguments the kernel's three results are the reference's. -/
theorem algebraic : Cert.algebraic_KernelIdeal_ReferenceIdeal := by
  intro m g m' g' _ hagree
  refine ⟨Cert.KernelIdeal.Run.refH m, Cert.KernelIdeal.Run.refQ m, Cert.KernelIdeal.Run.refS m, ?_, ?_⟩
  · exact (θ_run Cert.KernelIdeal.defs _ _).mono
      (fun r h c =>
        have at' := fun b hb => h.1 c _ (Cert.KernelIdeal.Run.mem_uc b hb)
        ⟨(at' Cert.KernelIdeal.main_v5 (by decide)).trans (Cert.KernelIdeal.Run.result_h m g c),
         (at' Cert.KernelIdeal.main_v6 (by decide)).trans (Cert.KernelIdeal.Run.result_q m g c),
         (at' Cert.KernelIdeal.main_v7 (by decide)).trans (Cert.KernelIdeal.Run.result_s m g c),
         (at' Cert.KernelIdeal.main_arg0 (by decide)).trans (Cert.KernelIdeal.Run.W5_main_arg0 m g c),
         (at' Cert.KernelIdeal.main_arg1 (by decide)).trans (Cert.KernelIdeal.Run.W5_main_arg1 m g c),
         (at' Cert.KernelIdeal.main_arg2 (by decide)).trans (Cert.KernelIdeal.Run.W5_main_arg2 m g c),
         (at' Cert.KernelIdeal.main_arg3 (by decide)).trans (Cert.KernelIdeal.Run.W5_main_arg3 m g c),
         (at' Cert.KernelIdeal.main_arg4 (by decide)).trans (Cert.KernelIdeal.Run.W5_main_arg4 m g c)⟩)
      (Cert.KernelIdeal.Run.run_all (F := Ideal) m g)
  · refine (θ_run Cert.ReferenceIdeal.defs _ _).mono (fun r h c => ?_) (Cert.ReferenceIdeal.Value.run (F := Ideal) m' g')
    obtain ⟨e₀, e₁, e₂, e₃, e₄⟩ := hagree c
    obtain ⟨h₀, h₁, h₂, hargs⟩ := h c
    refine ⟨h₀.trans ?_, h₁.trans ?_, h₂.trans ?_, hargs⟩
    · refine (Cert.ReferenceIdeal.Read.val_main_v29_eq (F := Ideal) _ _ _ _).trans ?_
      rw [e₀, e₁, e₂, e₃]
      rfl
    · refine (Cert.ReferenceIdeal.Read.val_main_v57_eq (F := Ideal) m' c).trans ?_
      rw [e₀, e₁, e₂, e₃, e₄]
      rfl
    · refine (Cert.ReferenceIdeal.Read.val_main_v51_eq (F := Ideal) m' c).trans ?_
      rw [e₀, e₁, e₂, e₃, e₄]
      rfl

/-- The five claims. -/
theorem claim : Cert.Claim := ⟨Cert.Kernel.Gen.facts, Cert.KernelIdeal.Gen.facts, Cert.ReferenceIdeal.Gen.facts,
  quiescent_kernel, fun m g _ => Cert.KernelIdeal.Run.frame (F := Ideal) m g,
  quiescent_reference, trivial, algebraic⟩

end Cert.Proof

end
